-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8x256x512 : Shape := ⟨3, ![8, 256, 512]⟩
abbrev S8 : Shape := ⟨1, ![8]⟩
abbrev S2x8x512 : Shape := ⟨3, ![2, 8, 512]⟩
abbrev S1024x512 : Shape := ⟨2, ![1024, 512]⟩
abbrev S512x2048 : Shape := ⟨2, ![512, 2048]⟩
abbrev S2048 : Shape := ⟨1, ![2048]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S8x1 : Shape := ⟨2, ![8, 1]⟩
abbrev S1x2048 : Shape := ⟨2, ![1, 2048]⟩
abbrev S1x512 : Shape := ⟨2, ![1, 512]⟩
abbrev S1x1024 : Shape := ⟨2, ![1, 1024]⟩
abbrev S8x256 : Shape := ⟨2, ![8, 256]⟩
abbrev S1024x2048 : Shape := ⟨2, ![1024, 2048]⟩
abbrev S8x2048 : Shape := ⟨2, ![8, 2048]⟩
abbrev S8x512 : Shape := ⟨2, ![8, 512]⟩
abbrev S8x1024 : Shape := ⟨2, ![8, 1024]⟩
abbrev S_ : Shape := ⟨0, ![]⟩
abbrev S2048x512 : Shape := ⟨2, ![2048, 512]⟩
abbrev S1x1 : Shape := ⟨2, ![1, 1]⟩
abbrev S1x8x512 : Shape := ⟨3, ![1, 8, 512]⟩
abbrev S8x1x512 : Shape := ⟨3, ![8, 1, 512]⟩

abbrev nBuf : Space → Nat
  | .hbm => 20
  | .vmem => 21
  | .smem => 1
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S2x8x512, .f32⟩
  | .hbm, ⟨3, _⟩ => ⟨S1024x512, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024, .i32⟩
  | .hbm, ⟨13, _⟩ => ⟨S8x1, .i32⟩
  | .hbm, ⟨14, _⟩ => ⟨S1x2048, .f32⟩
  | .hbm, ⟨15, _⟩ => ⟨S1x512, .f32⟩
  | .hbm, ⟨16, _⟩ => ⟨S1x1024, .f32⟩
  | .hbm, ⟨17, _⟩ => ⟨S1x1024, .i32⟩
  | .hbm, ⟨18, _⟩ => ⟨S8x256, .i32⟩
  | .hbm, ⟨19, _⟩ => ⟨S2x8x512, .f32⟩
  | .local _ .vmem, ⟨0, _⟩ => ⟨S8x256x512, .f32⟩
  | .local _ .vmem, ⟨1, _⟩ => ⟨S8x1, .i32⟩
  | .local _ .vmem, ⟨2, _⟩ => ⟨S2x8x512, .f32⟩
  | .local _ .vmem, ⟨3, _⟩ => ⟨S1024x512, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x1024, .f32⟩
  | .local _ .vmem, ⟨11, _⟩ => ⟨S1x1024, .f32⟩
  | .local _ .vmem, ⟨12, _⟩ => ⟨S1x1024, .i32⟩
  | .local _ .vmem, ⟨13, _⟩ => ⟨S8x256, .i32⟩
  | .local _ .vmem, ⟨14, _⟩ => ⟨S2x8x512, .f32⟩
  | .local _ .vmem, ⟨15, _⟩ => ⟨S8x256x512, .f32⟩
  | .local _ .vmem, ⟨16, _⟩ => ⟨S1024x2048, .f32⟩
  | .local _ .vmem, ⟨17, _⟩ => ⟨S8x2048, .f32⟩
  | .local _ .vmem, ⟨18, _⟩ => ⟨S8x512, .f32⟩
  | .local _ .vmem, ⟨19, _⟩ => ⟨S8x1024, .f32⟩
  | .local _ .vmem, ⟨20, _⟩ => ⟨S8x1, .i32⟩
  | .local _ .smem, ⟨0, _⟩ => ⟨S8x1, .i32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32_55 : BitVec 32 := 0#32
  let c256_i32 : BitVec 32 := 256#32
  let v46 : BitVec 32 := Scalar.addi c0_i32_55 c256_i32
  let c1_i32 : BitVec 32 := 1#32
  ⟨c0_i32_55, v46, c1_i32⟩
def k0_off1 (v55 : BitVec 32) : Fin 2 → Nat :=
  let v56 : Index := Scalar.indexCast v55
  let c0_67 : Index := 0#32
  ![v56.toNat, 0]

def k0_chk1 (v55 : BitVec 32) : Prop :=
  (∀ a, (k0_off1 v55) a + S1x2048.size a ≤ S1024x2048.size a)
theorem k0_off1_inb : ∀ (v55 : BitVec 32) (k0_hw1 : k0_chk1 v55), ∀ a, (k0_off1 v55) a + S1x2048.size a ≤ S1024x2048.size a := fun v55 k0_hw1 => k0_hw1

def k0_off2 (v58 : BitVec 32) : Fin 2 → Nat :=
  let v59 : Index := Scalar.indexCast v58
  let c0_70 : Index := 0#32
  ![v59.toNat, 0]

def k0_chk2 (v58 : BitVec 32) : Prop :=
  (∀ a, (k0_off2 v58) a + S1x2048.size a ≤ S1024x2048.size a)
theorem k0_off2_inb : ∀ (v58 : BitVec 32) (k0_hw2 : k0_chk2 v58), ∀ a, (k0_off2 v58) a + S1x2048.size a ≤ S1024x2048.size a := fun v58 k0_hw2 => k0_hw2

def k0_off3 (v61 : BitVec 32) : Fin 2 → Nat :=
  let v62 : Index := Scalar.indexCast v61
  let c0_73 : Index := 0#32
  ![v62.toNat, 0]

def k0_chk3 (v61 : BitVec 32) : Prop :=
  (∀ a, (k0_off3 v61) a + S1x2048.size a ≤ S1024x2048.size a)
theorem k0_off3_inb : ∀ (v61 : BitVec 32) (k0_hw3 : k0_chk3 v61), ∀ a, (k0_off3 v61) a + S1x2048.size a ≤ S1024x2048.size a := fun v61 k0_hw3 => k0_hw3

def k0_off4 (v64 : BitVec 32) : Fin 2 → Nat :=
  let v65 : Index := Scalar.indexCast v64
  let c0_76 : Index := 0#32
  ![v65.toNat, 0]

def k0_chk4 (v64 : BitVec 32) : Prop :=
  (∀ a, (k0_off4 v64) a + S1x2048.size a ≤ S1024x2048.size a)
theorem k0_off4_inb : ∀ (v64 : BitVec 32) (k0_hw4 : k0_chk4 v64), ∀ a, (k0_off4 v64) a + S1x2048.size a ≤ S1024x2048.size a := fun v64 k0_hw4 => k0_hw4

def k0_off5 (v67 : BitVec 32) : Fin 2 → Nat :=
  let v68 : Index := Scalar.indexCast v67
  let c0_79 : Index := 0#32
  ![v68.toNat, 0]

def k0_chk5 (v67 : BitVec 32) : Prop :=
  (∀ a, (k0_off5 v67) a + S1x2048.size a ≤ S1024x2048.size a)
theorem k0_off5_inb : ∀ (v67 : BitVec 32) (k0_hw5 : k0_chk5 v67), ∀ a, (k0_off5 v67) a + S1x2048.size a ≤ S1024x2048.size a := fun v67 k0_hw5 => k0_hw5

def k0_off6 (v70 : BitVec 32) : Fin 2 → Nat :=
  let v71 : Index := Scalar.indexCast v70
  let c0_82 : Index := 0#32
  ![v71.toNat, 0]

def k0_chk6 (v70 : BitVec 32) : Prop :=
  (∀ a, (k0_off6 v70) a + S1x2048.size a ≤ S1024x2048.size a)
theorem k0_off6_inb : ∀ (v70 : BitVec 32) (k0_hw6 : k0_chk6 v70), ∀ a, (k0_off6 v70) a + S1x2048.size a ≤ S1024x2048.size a := fun v70 k0_hw6 => k0_hw6

def k0_off7 (v73 : BitVec 32) : Fin 2 → Nat :=
  let v74 : Index := Scalar.indexCast v73
  let c0_85 : Index := 0#32
  ![v74.toNat, 0]

def k0_chk7 (v73 : BitVec 32) : Prop :=
  (∀ a, (k0_off7 v73) a + S1x2048.size a ≤ S1024x2048.size a)
theorem k0_off7_inb : ∀ (v73 : BitVec 32) (k0_hw7 : k0_chk7 v73), ∀ a, (k0_off7 v73) a + S1x2048.size a ≤ S1024x2048.size a := fun v73 k0_hw7 => k0_hw7

def k0_off8 (v76 : BitVec 32) : Fin 2 → Nat :=
  let v77 : Index := Scalar.indexCast v76
  let c0_88 : Index := 0#32
  ![v77.toNat, 0]

def k0_chk8 (v76 : BitVec 32) : Prop :=
  (∀ a, (k0_off8 v76) a + S1x2048.size a ≤ S1024x2048.size a)
theorem k0_off8_inb : ∀ (v76 : BitVec 32) (k0_hw8 : k0_chk8 v76), ∀ a, (k0_off8 v76) a + S1x2048.size a ≤ S1024x2048.size a := fun v76 k0_hw8 => k0_hw8

def k0_off9 (k0_t1 : Fin k0_t1_loop.trips) : Fin 3 → Nat :=
  let c0_89 : Index := 0#32
  let c0_i32_55 : BitVec 32 := 0#32
  let c1_i32 : BitVec 32 := 1#32
  let arg23 : BitVec 32 := Scf.iv c0_i32_55 c1_i32 k0_t1
  let v96 : Index := Scalar.indexCast arg23
  let c0_90 : Index := 0#32
  ![0, v96.toNat, 0]
abbrev stage0_0 : Fin 1 → Memref sig .tc .vmem S8x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x256 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S8x256x512 : Shape := ⟨3, ![8, 256, 512]⟩
abbrev S8 : Shape := ⟨1, ![8]⟩
abbrev S2x8x512 : Shape := ⟨3, ![2, 8, 512]⟩
abbrev S1024x512 : Shape := ⟨2, ![1024, 512]⟩
abbrev S512x2048 : Shape := ⟨2, ![512, 2048]⟩
abbrev S2048 : Shape := ⟨1, ![2048]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x8x512 : Shape := ⟨3, ![1, 8, 512]⟩
abbrev S8x512 : Shape := ⟨2, ![8, 512]⟩
abbrev S_ : Shape := ⟨0, ![]⟩
abbrev S256x8x512 : Shape := ⟨3, ![256, 8, 512]⟩
abbrev S256x8 : Shape := ⟨2, ![256, 8]⟩
abbrev S8x1 : Shape := ⟨2, ![8, 1]⟩
abbrev S1 : Shape := ⟨1, ![1]⟩
abbrev S1x1 : Shape := ⟨2, ![1, 1]⟩
abbrev S8x2048 : Shape := ⟨2, ![8, 2048]⟩
abbrev S1x2048 : Shape := ⟨2, ![1, 2048]⟩
abbrev S1x512 : Shape := ⟨2, ![1, 512]⟩
abbrev S8x1024 : Shape := ⟨2, ![8, 1024]⟩
abbrev S1x1024 : Shape := ⟨2, ![1, 1024]⟩
abbrev S1x8 : Shape := ⟨2, ![1, 8]⟩
abbrev S8x256 : Shape := ⟨2, ![8, 256]⟩
abbrev S256 : Shape := ⟨1, ![256]⟩
abbrev S1x256 : Shape := ⟨2, ![1, 256]⟩
abbrev S8x256x1 : Shape := ⟨3, ![8, 256, 1]⟩
abbrev S1x1x1 : Shape := ⟨3, ![1, 1, 1]⟩

abbrev nBuf : Space → Nat
  | .hbm => 173
  | .vmem => 0
  | .smem => 0
  | _ => 0

abbrev hbmTy0_0 (i : Nat) : BufTy := match i % 128 with
  | 0 => ⟨S8x256x512, .f32⟩
  | 1 => ⟨S8, .i32⟩
  | 2 => ⟨S2x8x512, .f32⟩
  | 3 => ⟨S1024x512, .f32⟩
  | 4 => ⟨S512x2048, .f32⟩
  | 5 => ⟨S512x2048, .f32⟩
  | 6 => ⟨S2048, .f32⟩
  | 7 => ⟨S512x512, .f32⟩
  | 8 => ⟨S512x512, .f32⟩
  | 9 => ⟨S512, .f32⟩
  | 10 => ⟨S512x1024, .f32⟩
  | 11 => ⟨S1024, .f32⟩
  | 12 => ⟨S1024, .i32⟩
  | 13 => ⟨S8x256x512, .f32⟩
  | 14 => ⟨S1x8x512, .f32⟩
  | 15 => ⟨S8x512, .f32⟩
  | 16 => ⟨S1x8x512, .f32⟩
  | 17 => ⟨S8x512, .f32⟩
  | 18 => ⟨S_, .i32⟩
  | 19 => ⟨S8, .i32⟩
  | 20 => ⟨S256x8x512, .f32⟩
  | 21 => ⟨S_, .i32⟩
  | 22 => ⟨S256x8, .i32⟩
  | 23 => ⟨S_, .i32⟩
  | 24 => ⟨S256x8x512, .f32⟩
  | 25 => ⟨S1024x512, .f32⟩
  | 26 => ⟨S512x2048, .f32⟩
  | 27 => ⟨S512x2048, .f32⟩
  | 28 => ⟨S2048, .f32⟩
  | 29 => ⟨S512x512, .f32⟩
  | 30 => ⟨S512, .f32⟩
  | 31 => ⟨S512x1024, .f32⟩
  | 32 => ⟨S1024, .f32⟩
  | 33 => ⟨S_, .i32⟩
  | 34 => ⟨S8x512, .f32⟩
  | 35 => ⟨S8x512, .f32⟩
  | 36 => ⟨S8, .i32⟩
  | 37 => ⟨S256x8, .i32⟩
  | 38 => ⟨S_, .i32⟩
  | 39 => ⟨S_, .i1⟩
  | 40 => ⟨S_, .i32⟩
  | 41 => ⟨S_, .i32⟩
  | 42 => ⟨S1x8x512, .f32⟩
  | 43 => ⟨S8x512, .f32⟩
  | 44 => ⟨S_, .i32⟩
  | 45 => ⟨S8, .i32⟩
  | 46 => ⟨S8, .i1⟩
  | 47 => ⟨S_, .i32⟩
  | 48 => ⟨S8, .i32⟩
  | 49 => ⟨S8, .i32⟩
  | 50 => ⟨S8, .i32⟩
  | 51 => ⟨S8x1, .i32⟩
  | 52 => ⟨S1, .i32⟩
  | 53 => ⟨S_, .i32⟩
  | 54 => ⟨S8x1, .i32⟩
  | 55 => ⟨S8x1, .i1⟩
  | 56 => ⟨S1x1, .i32⟩
  | 57 => ⟨S8x1, .i32⟩
  | 58 => ⟨S8x1, .i1⟩
  | 59 => ⟨S8x1, .i1⟩
  | 60 => ⟨S_, .i1⟩
  | 61 => ⟨S8, .i1⟩
  | 62 => ⟨S8x512, .f32⟩
  | 63 => ⟨S8x512, .i1⟩
  | 64 => ⟨S_, .f32⟩
  | 65 => ⟨S8x512, .f32⟩
  | 66 => ⟨S8x512, .f32⟩
  | 67 => ⟨S8x2048, .f32⟩
  | 68 => ⟨S8x2048, .f32⟩
  | 69 => ⟨S8x2048, .f32⟩
  | 70 => ⟨S1x2048, .f32⟩
  | 71 => ⟨S8x2048, .f32⟩
  | 72 => ⟨S8x2048, .f32⟩
  | 73 => ⟨S8x512, .f32⟩
  | 74 => ⟨S8x512, .f32⟩
  | 75 => ⟨S8x512, .f32⟩
  | 76 => ⟨S8x512, .f32⟩
  | 77 => ⟨S8x512, .f32⟩
  | 78 => ⟨S8x512, .f32⟩
  | 79 => ⟨S_, .f32⟩
  | 80 => ⟨S8x512, .f32⟩
  | 81 => ⟨S8x512, .f32⟩
  | 82 => ⟨S_, .f32⟩
  | 83 => ⟨S8x512, .f32⟩
  | 84 => ⟨S8x512, .f32⟩
  | 85 => ⟨S8x512, .f32⟩
  | 86 => ⟨S8x512, .f32⟩
  | 87 => ⟨S8x512, .f32⟩
  | 88 => ⟨S_, .f32⟩
  | 89 => ⟨S8x512, .f32⟩
  | 90 => ⟨S8x512, .f32⟩
  | 91 => ⟨S_, .f32⟩
  | 92 => ⟨S8x512, .f32⟩
  | 93 => ⟨S8x512, .f32⟩
  | 94 => ⟨S8x512, .f32⟩
  | 95 => ⟨S8x512, .f32⟩
  | 96 => ⟨S8x512, .f32⟩
  | 97 => ⟨S8x512, .f32⟩
  | 98 => ⟨S8x512, .f32⟩
  | 99 => ⟨S_, .f32⟩
  | 100 => ⟨S8x512, .f32⟩
  | 101 => ⟨S8x512, .f32⟩
  | 102 => ⟨S_, .f32⟩
  | 103 => ⟨S8x512, .f32⟩
  | 104 => ⟨S8x512, .f32⟩
  | 105 => ⟨S8x512, .f32⟩
  | 106 => ⟨S8x512, .f32⟩
  | 107 => ⟨S8x512, .f32⟩
  | 108 => ⟨S8x512, .f32⟩
  | 109 => ⟨S1x512, .f32⟩
  | 110 => ⟨S8x512, .f32⟩
  | 111 => ⟨S8x512, .f32⟩
  | 112 => ⟨S8x512, .f32⟩
  | 113 => ⟨S8x1024, .f32⟩
  | 114 => ⟨S1x1024, .f32⟩
  | 115 => ⟨S8x1024, .f32⟩
  | 116 => ⟨S8x1024, .f32⟩
  | 117 => ⟨S8x1024, .i32⟩
  | 118 => ⟨S_, .f32⟩
  | 119 => ⟨S_, .i32⟩
  | 120 => ⟨S8, .f32⟩
  | 121 => ⟨S8, .i32⟩
  | 122 => ⟨S_, .i32⟩
  | 123 => ⟨S8, .i32⟩
  | 124 => ⟨S8, .i1⟩
  | 125 => ⟨S8x1, .i1⟩
  | 126 => ⟨S8x512, .i1⟩
  | 127 => ⟨S8x512, .f32⟩
  | _ => ⟨S8x256x512, .f32⟩

abbrev hbmTy0_1 (i : Nat) : BufTy := match i % 128 with
  | 0 => ⟨S8x1, .i1⟩
  | 1 => ⟨S8x512, .i1⟩
  | 2 => ⟨S8x512, .f32⟩
  | 3 => ⟨S8, .i32⟩
  | 4 => ⟨S1x8, .i32⟩
  | 5 => ⟨S_, .i32⟩
  | 6 => ⟨S256x8, .i32⟩
  | 7 => ⟨S_, .i32⟩
  | 8 => ⟨S_, .i32⟩
  | 9 => ⟨S8x256, .i32⟩
  | 10 => ⟨S256, .i32⟩
  | 11 => ⟨S1x256, .i32⟩
  | 12 => ⟨S8x1, .i32⟩
  | 13 => ⟨S8x256, .i32⟩
  | 14 => ⟨S8x256, .i32⟩
  | 15 => ⟨S8x256, .i1⟩
  | 16 => ⟨S_, .i32⟩
  | 17 => ⟨S_, .i32⟩
  | 18 => ⟨S8x256, .i32⟩
  | 19 => ⟨S8x256, .i32⟩
  | 20 => ⟨S_, .i32⟩
  | 21 => ⟨S8x256, .i32⟩
  | 22 => ⟨S8x256, .i1⟩
  | 23 => ⟨S_, .i32⟩
  | 24 => ⟨S8x256, .i32⟩
  | 25 => ⟨S8x256, .i32⟩
  | 26 => ⟨S8x256, .i32⟩
  | 27 => ⟨S8x256x1, .i32⟩
  | 28 => ⟨S1, .i32⟩
  | 29 => ⟨S_, .i32⟩
  | 30 => ⟨S8x256x1, .i32⟩
  | 31 => ⟨S8x256x1, .i1⟩
  | 32 => ⟨S1x1x1, .i32⟩
  | 33 => ⟨S8x256x1, .i32⟩
  | 34 => ⟨S8x256x1, .i1⟩
  | 35 => ⟨S8x256x1, .i1⟩
  | 36 => ⟨S_, .i1⟩
  | 37 => ⟨S8x256, .i1⟩
  | 38 => ⟨S8x256, .i32⟩
  | 39 => ⟨S_, .i32⟩
  | 40 => ⟨S8x256, .i32⟩
  | 41 => ⟨S8x256, .i32⟩
  | 42 => ⟨S1x8x512, .f32⟩
  | 43 => ⟨S1x8x512, .f32⟩
  | 44 => ⟨S2x8x512, .f32⟩
  | _ => ⟨S8x256x512, .f32⟩

abbrev hbmTy (i : Nat) : BufTy := match i / 128 with
  | 0 => hbmTy0_0 i
  | 1 => hbmTy0_1 i
  | _ => ⟨S8x256x512, .f32⟩

abbrev bufTy : (tb : Table) → Fin (tcTables nBuf tb) → BufTy
  | .hbm, ⟨i, _⟩ => hbmTy i
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_c_1 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_v8_7 : Ref sig .tc := ⟨.hbm, 31, rfl⟩
abbrev main_v8_8 : Ref sig .tc := ⟨.hbm, 32, rfl⟩
abbrev main_v8_9 : Ref sig .tc := ⟨.hbm, 33, rfl⟩
abbrev main_v8_10 : Ref sig .tc := ⟨.hbm, 34, rfl⟩
abbrev main_v8_11 : Ref sig .tc := ⟨.hbm, 35, rfl⟩
abbrev main_v8_12 : Ref sig .tc := ⟨.hbm, 36, rfl⟩
abbrev main_v8_13 : Ref sig .tc := ⟨.hbm, 37, rfl⟩
abbrev main_while0c_c_16 : Ref sig .tc := ⟨.hbm, 38, rfl⟩
abbrev main_while0c_v21 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v21 : Ref sig .tc := ⟨.hbm, 43, rfl⟩
abbrev main_while0b_call1_c : Ref sig .tc := ⟨.hbm, 44, rfl⟩
abbrev main_while0b_call1_v0 : Ref sig .tc := ⟨.hbm, 45, rfl⟩
abbrev main_while0b_call1_v1 : Ref sig .tc := ⟨.hbm, 46, rfl⟩
abbrev main_while0b_call1_c_0 : Ref sig .tc := ⟨.hbm, 47, rfl⟩
abbrev main_while0b_call1_v2 : Ref sig .tc := ⟨.hbm, 48, rfl⟩
abbrev main_while0b_call1_v3 : Ref sig .tc := ⟨.hbm, 49, rfl⟩
abbrev main_while0b_call1_v4 : Ref sig .tc := ⟨.hbm, 50, rfl⟩
abbrev main_while0b_call1_v5 : Ref sig .tc := ⟨.hbm, 51, rfl⟩
abbrev main_while0b_call1_c_1 : Ref sig .tc := ⟨.hbm, 52, rfl⟩
abbrev main_while0b_call1_c_2 : Ref sig .tc := ⟨.hbm, 53, rfl⟩
abbrev main_while0b_call1_v6 : Ref sig .tc := ⟨.hbm, 54, rfl⟩
abbrev main_while0b_call1_v7 : Ref sig .tc := ⟨.hbm, 55, rfl⟩
abbrev main_while0b_call1_v8 : Ref sig .tc := ⟨.hbm, 56, rfl⟩
abbrev main_while0b_call1_v9 : Ref sig .tc := ⟨.hbm, 57, rfl⟩
abbrev main_while0b_call1_v10 : Ref sig .tc := ⟨.hbm, 58, rfl⟩
abbrev main_while0b_call1_v11 : Ref sig .tc := ⟨.hbm, 59, rfl⟩
abbrev main_while0b_call1_c_3 : Ref sig .tc := ⟨.hbm, 60, rfl⟩
abbrev main_while0b_call1_v12 : Ref sig .tc := ⟨.hbm, 61, rfl⟩
abbrev main_while0b_call1_v13 : Ref sig .tc := ⟨.hbm, 62, rfl⟩
abbrev main_while0b_call1_v14 : Ref sig .tc := ⟨.hbm, 63, rfl⟩
abbrev main_while0b_call1_cst : Ref sig .tc := ⟨.hbm, 64, rfl⟩
abbrev main_while0b_call1_v15 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_v31 : Ref sig .tc := ⟨.hbm, 75, rfl⟩
abbrev main_while0b_v32 : Ref sig .tc := ⟨.hbm, 76, rfl⟩
abbrev main_while0b_v33 : Ref sig .tc := ⟨.hbm, 77, rfl⟩
abbrev main_while0b_v34 : Ref sig .tc := ⟨.hbm, 78, rfl⟩
abbrev main_while0b_cst : Ref sig .tc := ⟨.hbm, 79, rfl⟩
abbrev main_while0b_v35 : Ref sig .tc := ⟨.hbm, 80, rfl⟩
abbrev main_while0b_v36 : Ref sig .tc := ⟨.hbm, 81, rfl⟩
abbrev main_while0b_cst_16 : Ref sig .tc := ⟨.hbm, 82, rfl⟩
abbrev main_while0b_v37 : Ref sig .tc := ⟨.hbm, 83, rfl⟩
abbrev main_while0b_v38 : Ref sig .tc := ⟨.hbm, 84, rfl⟩
abbrev main_while0b_v39 : Ref sig .tc := ⟨.hbm, 85, rfl⟩
abbrev main_while0b_v40 : Ref sig .tc := ⟨.hbm, 86, rfl⟩
abbrev main_while0b_v41 : Ref sig .tc := ⟨.hbm, 87, rfl⟩
abbrev main_while0b_cst_17 : Ref sig .tc := ⟨.hbm, 88, rfl⟩
abbrev main_while0b_v42 : Ref sig .tc := ⟨.hbm, 89, rfl⟩
abbrev main_while0b_v43 : Ref sig .tc := ⟨.hbm, 90, rfl⟩
abbrev main_while0b_cst_18 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_cst_19 : Ref sig .tc := ⟨.hbm, 99, rfl⟩
abbrev main_while0b_v51 : Ref sig .tc := ⟨.hbm, 100, rfl⟩
abbrev main_while0b_v52 : Ref sig .tc := ⟨.hbm, 101, rfl⟩
abbrev main_while0b_cst_20 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_call2_v0 : Ref sig .tc := ⟨.hbm, 117, rfl⟩
abbrev main_while0b_call2_cst : Ref sig .tc := ⟨.hbm, 118, rfl⟩
abbrev main_while0b_call2_c : Ref sig .tc := ⟨.hbm, 119, rfl⟩
abbrev main_while0b_call2_v1_0 : Ref sig .tc := ⟨.hbm, 120, rfl⟩
abbrev main_while0b_v67 : Ref sig .tc := ⟨.hbm, 121, rfl⟩
abbrev main_while0b_c_21 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_call3_v0 : Ref sig .tc := ⟨.hbm, 126, rfl⟩
abbrev main_while0b_v71 : Ref sig .tc := ⟨.hbm, 127, rfl⟩
abbrev main_while0b_v72 : Ref sig .tc := ⟨.hbm, 128, rfl⟩
abbrev main_while0b_call4_v0 : Ref sig .tc := ⟨.hbm, 129, rfl⟩
abbrev main_while0b_v73 : Ref sig .tc := ⟨.hbm, 130, rfl⟩
abbrev main_while0b_v74 : Ref sig .tc := ⟨.hbm, 131, rfl⟩
abbrev main_while0b_call6_v0 : Ref sig .tc := ⟨.hbm, 132, rfl⟩
abbrev main_while0b_call6_c : Ref sig .tc := ⟨.hbm, 133, rfl⟩
abbrev main_while0b_v75 : Ref sig .tc := ⟨.hbm, 134, rfl⟩
abbrev main_while0b_c_22 : Ref sig .tc := ⟨.hbm, 135, rfl⟩
abbrev main_while0b_v76 : Ref sig .tc := ⟨.hbm, 136, rfl⟩
abbrev main_v9 : Ref sig .tc := ⟨.hbm, 137, rfl⟩
abbrev main_v10 : Ref sig .tc := ⟨.hbm, 138, rfl⟩
abbrev main_v11 : Ref sig .tc := ⟨.hbm, 139, rfl⟩
abbrev main_v12 : Ref sig .tc := ⟨.hbm, 140, rfl⟩
abbrev main_v13 : Ref sig .tc := ⟨.hbm, 141, rfl⟩
abbrev main_v14 : Ref sig .tc := ⟨.hbm, 142, rfl⟩
abbrev main_v15 : Ref sig .tc := ⟨.hbm, 143, rfl⟩
abbrev main_c_2 : Ref sig .tc := ⟨.hbm, 144, rfl⟩
abbrev main_call7_v0 : Ref sig .tc := ⟨.hbm, 145, rfl⟩
abbrev main_call7_v1 : Ref sig .tc := ⟨.hbm, 146, rfl⟩
abbrev main_v16 : Ref sig .tc := ⟨.hbm, 147, rfl⟩
abbrev main_call8_c : Ref sig .tc := ⟨.hbm, 148, rfl⟩
abbrev main_call8_v0 : Ref sig .tc := ⟨.hbm, 149, rfl⟩
abbrev main_call8_v1 : Ref sig .tc := ⟨.hbm, 150, rfl⟩
abbrev main_call8_c_0 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_call8_c_1 : Ref sig .tc := ⟨.hbm, 156, rfl⟩
abbrev main_call8_c_2 : Ref sig .tc := ⟨.hbm, 157, rfl⟩
abbrev main_call8_v6 : Ref sig .tc := ⟨.hbm, 158, rfl⟩
abbrev main_call8_v7 : Ref sig .tc := ⟨.hbm, 159, rfl⟩
abbrev main_call8_v8 : Ref sig .tc := ⟨.hbm, 160, rfl⟩
abbrev main_call8_v9 : Ref sig .tc := ⟨.hbm, 161, rfl⟩
abbrev main_call8_v10 : Ref sig .tc := ⟨.hbm, 162, rfl⟩
abbrev main_call8_v11 : Ref sig .tc := ⟨.hbm, 163, rfl⟩
abbrev main_call8_c_3 : Ref sig .tc := ⟨.hbm, 164, rfl⟩
abbrev main_call8_v12 : Ref sig .tc := ⟨.hbm, 165, rfl⟩
abbrev main_call8_v13 : Ref sig .tc := ⟨.hbm, 166, rfl⟩
abbrev main_call8_c_4 : Ref sig .tc := ⟨.hbm, 167, rfl⟩
abbrev main_call8_v14 : Ref sig .tc := ⟨.hbm, 168, rfl⟩
abbrev main_v17 : Ref sig .tc := ⟨.hbm, 169, rfl⟩
abbrev main_v18 : Ref sig .tc := ⟨.hbm, 170, rfl⟩
abbrev main_v19 : Ref sig .tc := ⟨.hbm, 171, rfl⟩
abbrev main_v20 : Ref sig .tc := ⟨.hbm, 172, rfl⟩

abbrev nD : Nat := 1
abbrev τ : Topo := Topo.v7x

variable {F : FTy → Type} [FloatOps F]

abbrev main_while0_count : Scf.Loop 32 := ⟨0#32, 256#32, 1#32⟩
-- ==== Proof.Pick.lean ====
/-
  The first position of a row's greatest entry, and the two folds that find it: the smallest position among those that hold the
  maximum, and a left fold over (entry, position) pairs that keeps the greater entry and on equal entries the smaller position.
-/
module

public import Idealize.ShloMosaic.PureOps.Ideal.Laws
public import Idealize.ShloMosaic.Lib.SortNet.Extract
public import Idealize.ShloMosaic.Lib.ValueIdx

@[expose] public section

noncomputable section

namespace Cert.Pick

open Idealize.ShloMosaic

/-- `i` is the first position of the greatest entry of `x`. -/
def First (x : Fin 1024 → EReal) (i : Fin 1024) : Prop := (∀ j, x j ≤ x i) ∧ ∀ j, x j = x i → i ≤ j

theorem first_unique {x : Fin 1024 → EReal} {i j : Fin 1024} (hi : First x i) (hj : First x j) : i = j :=
  have e : x i = x j := le_antisymm (hj.1 i) (hi.1 j)
  le_antisymm (hi.2 j e.symm) (hj.2 i e)

theorem exists_first (x : Fin 1024 → EReal) : ∃ i, First x i := by
  obtain ⟨a, -, ha⟩ := Finset.exists_max_image Finset.univ x ⟨0, Finset.mem_univ _⟩
  obtain ⟨i, hi, hm⟩ := Finset.exists_min_image (Finset.univ.filter fun j => x j = x a) id ⟨a, by simp⟩
  have ei : x i = x a := by simpa using hi
  exact ⟨i, fun j => ei ▸ ha j (Finset.mem_univ _), fun j hj => hm j (by simp [hj, ei])⟩

/-- The first position of the greatest entry. -/
def best (x : Fin 1024 → EReal) : Fin 1024 := (exists_first x).choose
theorem best_first (x : Fin 1024 → EReal) : First x (best x) := (exists_first x).choose_spec

theorem toInt_pos (n : ℕ) (h : n ≤ 1024) : (BitVec.ofNat 32 n).toInt = n := by
  rw [BitVec.toInt_eq_toNat_of_lt (by rw [BitVec.toNat_ofNat]; omega), BitVec.toNat_ofNat]; omega

/-- The fold of the signed minimum is below its start and every entry, and is one of them. -/
theorem fold_min {ι : Type} [DecidableEq ι] (S : Finset ι) (f : ι → BitVec 32) (z : BitVec 32) :
    (S.fold IntOp.minsi z f).toInt ≤ z.toInt ∧ (∀ k ∈ S, (S.fold IntOp.minsi z f).toInt ≤ (f k).toInt)
      ∧ (S.fold IntOp.minsi z f = z ∨ ∃ k ∈ S, S.fold IntOp.minsi z f = f k) := by
  induction S using Finset.induction_on with
  | empty => simp
  | insert a S ha ih =>
    rw [Finset.fold_insert ha]
    obtain ⟨h1, h2, h3⟩ := ih
    have hm := SortNet.toInt_minsi (f a) (S.fold IntOp.minsi z f)
    refine ⟨by rw [hm]; exact (min_le_right _ _).trans h1, fun k hk => ?_, ?_⟩
    · rw [hm]
      rcases Finset.mem_insert.mp hk with rfl | hk
      · exact min_le_left _ _
      · exact (min_le_right _ _).trans (h2 k hk)
    · rcases le_total (f a).toInt (S.fold IntOp.minsi z f).toInt with h | h
      · exact Or.inr ⟨a, by simp, BitVec.eq_of_toInt_eq (by rw [hm, min_eq_left h])⟩
      · have e : IntOp.minsi (f a) (S.fold IntOp.minsi z f) = S.fold IntOp.minsi z f := BitVec.eq_of_toInt_eq (by rw [hm, min_eq_right h])
        rw [e]
        rcases h3 with h3 | ⟨k, hk, h3⟩
        · exact Or.inl h3
        · exact Or.inr ⟨k, by simp [hk], h3⟩

/-- The row's maximum from `⊥` is the entry at its first greatest position. -/
theorem fold_max (x : Fin 1024 → EReal) : (Finset.univ : Finset (Fin 1024)).fold max ⊥ x = x (best x) :=
  le_antisymm (Finset.fold_max_le _ |>.mpr ⟨bot_le, fun j _ => (best_first x).1 j⟩) (Finset.le_fold_max _ |>.mpr (Or.inr ⟨_, Finset.mem_univ _, le_rfl⟩))

/-- The smallest position among those whose entry is the row's maximum, positions that hold less counted as 1024. -/
theorem min_pos (x : Fin 1024 → EReal) (f : Fin 1024 → BitVec 32)
    (hf : ∀ k, f k = if x k = x (best x) then BitVec.ofNat 32 k.val else 1024#32) :
    (Finset.univ : Finset (Fin 1024)).fold IntOp.minsi 2147483647#32 f = BitVec.ofNat 32 (best x).val := by
  obtain ⟨-, h2, h3⟩ := fold_min Finset.univ f 2147483647#32
  generalize Finset.univ.fold IntOp.minsi 2147483647#32 f = w at h2 h3 ⊢
  have hb := h2 (best x) (Finset.mem_univ _)
  rw [hf, if_pos rfl, toInt_pos _ (best x).isLt.le] at hb
  have hlt := (best x).isLt
  rcases h3 with rfl | ⟨k, -, rfl⟩
  · exact absurd hb (by rw [show (2147483647#32 : BitVec 32).toInt = 2147483647 from by decide]; omega)
  · rw [hf] at hb ⊢
    split at hb
    · rename_i hk
      rw [toInt_pos _ k.isLt.le] at hb
      have := (best_first x).2 k hk
      rw [if_pos hk, show k = best x from Fin.ext (le_antisymm (by exact_mod_cast hb) this)]
    · rw [show (1024#32 : BitVec 32).toInt = 1024 from by decide] at hb; omega

/-- One step of the fold over pairs. -/
def keep (a b : EReal × BitVec 32) : EReal × BitVec 32 :=
  if b.1 < a.1 then a else if a.1 = b.1 ∧ a.2.toInt < b.2.toInt then (b.1, a.2) else b

/-- What the fold holds after the positions `S`. -/
def Inv {ι : Type} (x : ι → EReal) (n : ι → ℕ) (S : ι → Prop) (r : EReal × BitVec 32) : Prop :=
  ∃ i, r.2 = BitVec.ofNat 32 i ∧ i < 1024 ∧ (∀ p, S p → x p < r.1 ∨ x p = r.1 ∧ i ≤ n p)
    ∧ ((r.1 = ⊥ ∧ i = 0) ∨ ∃ p, S p ∧ x p = r.1 ∧ n p = i)

theorem keep_inv {ι : Type} (x : ι → EReal) (n : ι → ℕ) (hn : ∀ p, n p < 1024) (S : ι → Prop) (r : EReal × BitVec 32)
    (h : Inv x n S r) (q : ι) : Inv x n (fun p => S p ∨ p = q) (keep r (x q, BitVec.ofNat 32 (n q))) := by
  obtain ⟨v, w⟩ := r
  obtain ⟨i, hw, hi, hS, hr⟩ := h
  dsimp only at hw hS hr
  subst hw
  have hq := hn q
  have hti := toInt_pos i hi.le
  have htq := toInt_pos (n q) hq.le
  unfold keep
  dsimp only
  by_cases h1 : x q < v
  · rw [if_pos h1]
    exact ⟨i, rfl, hi, fun p hp => hp.elim (hS p) fun e => Or.inl (e ▸ h1),
      hr.imp id fun ⟨p, hp, e⟩ => ⟨p, Or.inl hp, e⟩⟩
  rw [if_neg h1]
  by_cases h2 : v = x q ∧ (BitVec.ofNat 32 i).toInt < (BitVec.ofNat 32 (n q)).toInt
  · rw [if_pos h2]
    obtain ⟨rfl, h2⟩ := h2
    rw [hti, htq] at h2
    exact ⟨i, rfl, hi, fun p hp => hp.elim (hS p) fun e => Or.inr ⟨by rw [e], by rw [e]; omega⟩,
      hr.imp id fun ⟨p, hp, e⟩ => ⟨p, Or.inl hp, e⟩⟩
  rw [if_neg h2, hti, htq] at *
  refine ⟨n q, rfl, hq, fun p hp => hp.elim (fun hp => ?_) fun e => Or.inr ⟨by rw [e], by rw [e]⟩, Or.inr ⟨q, Or.inr rfl, rfl, rfl⟩⟩
  dsimp only
  rcases lt_or_eq_of_le (not_lt.mp h1) with hlt | he
  · rcases hS p hp with h | h
    · exact Or.inl (h.trans hlt)
    · exact Or.inl (h.1 ▸ hlt)
  · have hle : n q ≤ i := by
      by_contra hc
      exact h2 ⟨he, by omega⟩
    rcases hS p hp with h | h
    · exact Or.inl (he ▸ h)
    · exact Or.inr ⟨h.1.trans he, hle.trans h.2⟩

theorem foldl_inv {ι : Type} (x : ι → EReal) (n : ι → ℕ) (hn : ∀ p, n p < 1024) (L : List ι) : ∀ (S : ι → Prop) (r : EReal × BitVec 32),
    Inv x n S r → Inv x n (fun p => S p ∨ p ∈ L) (L.foldl (fun r p => keep r (x p, BitVec.ofNat 32 (n p))) r) := by
  induction L with
  | nil => intro S r h; simpa using h
  | cons q L ih =>
    intro S r h
    have := ih _ _ (keep_inv x n hn S r h q)
    simpa [or_assoc] using this

/-- The fold over the pairs of a row, in any order, ends with the first greatest position. -/
theorem foldl_pos {ι : Type} (y : Fin 1024 → EReal) (x : ι → EReal) (n : ι → ℕ) (hn : ∀ p, n p < 1024) (L : List ι)
    (hx : ∀ p ∈ L, x p = y ⟨n p, hn p⟩) (hL : ∀ k : Fin 1024, ∃ p ∈ L, n p = k.val) :
    (L.foldl (fun r p => keep r (x p, BitVec.ofNat 32 (n p))) (⊥, 0#32)).2 = BitVec.ofNat 32 (best y).val := by
  obtain ⟨i, hw, hi, hS, hr⟩ := foldl_inv x n hn L (fun _ => False) (⊥, 0#32)
    ⟨0, rfl, by omega, fun _ h => h.elim, Or.inl ⟨rfl, rfl⟩⟩
  generalize L.foldl (fun r p => keep r (x p, BitVec.ofNat 32 (n p))) (⊥, 0#32) = r at hw hS hr ⊢
  have hy : ∀ k : Fin 1024, y k < r.1 ∨ y k = r.1 ∧ i ≤ k.val := fun k => by
    obtain ⟨p, hp, e⟩ := hL k
    have := hS p (Or.inr hp)
    rw [hx p hp, show (⟨n p, hn p⟩ : Fin 1024) = k from Fin.ext e, e] at this
    exact this
  have hyi : y ⟨i, hi⟩ = r.1 := by
    rcases hr with ⟨h, rfl⟩ | ⟨p, hp, e, rfl⟩
    · rcases hy ⟨0, hi⟩ with h' | h'
      · exact absurd (h ▸ h') not_lt_bot
      · exact h'.1
    · exact (hx p (hp.resolve_left id)).symm.trans e
  have hF : First y ⟨i, hi⟩ := ⟨fun j => by rw [hyi]; exact (hy j).elim le_of_lt fun h => h.1.le,
    fun j hj => (hy j).elim (fun h => absurd (hj.trans hyi) h.ne) fun h => h.2⟩
  rw [hw, ← first_unique hF (best_first y)]

end Cert.Pick

end
-- ==== Proof.Step.lean ====
/-
  One trip of the decode loop as a function of the values it carries.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.ValueIdxCore
public import Idealize.ShloMosaic.Lib.Pipeline.Value
public import Idealize.ShloMosaic.Lib.Tactic
public import Idealize.ShloMosaic.Lib.Transfers

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-- What one trip of the decode loop hands to the next: hidden state, cell state, last emitted token, the product of
    the hidden state with `W_hh`, and the table of decoded labels. -/
abbrev St (F : FTy → Type) [FloatOps F] : Type :=
  FVec F S8x512 .f32 × FVec F S8x512 .f32 × IVec S8x1 32 × Vec F S8x2048 .f32 × IVec S8x256 32

/-- Row `w` of the table of input gates, the row number reduced into range. -/
def eihRow (E : Vec F S1024x2048 .f32) (w : BitVec 32) : Vec F S1x2048 .f32 :=
  fun j => E (ix2 ⟨w.toNat % 1024, Nat.mod_lt _ (by decide)⟩ (j 1))

/-- The last emitted token of sample `b`. -/
def tokAt (p : IVec S8x1 32) (b : Fin 8) : BitVec 32 := p (ix2 b 0)

/-- Frame `k` of the projected encoder output. -/
def encAt (E : Vec F S8x256x512 .f32) (k : Fin k0_t1_loop.trips) : Vec F S8x1x512 .f32 :=
  fun j => E ((Rect.unit (s := S8x256x512) (k0_off9 k) S8x1x512.size (k0_off9_inb k)).emb j)

/-- The gate sums of one trip before the bias. -/
def gates (E : Vec F S1024x2048 .f32) (s : St F) : FVec F S8x2048 .f32 :=
  k0_pay3 s.2.2.2.1 (eihRow E (tokAt s.2.2.1 0)) (eihRow E (tokAt s.2.2.1 1)) (eihRow E (tokAt s.2.2.1 2)) (eihRow E (tokAt s.2.2.1 3))
    (eihRow E (tokAt s.2.2.1 4)) (eihRow E (tokAt s.2.2.1 5)) (eihRow E (tokAt s.2.2.1 6)) (eihRow E (tokAt s.2.2.1 7))

/-- Where the logits of a trip attain their row's maximum. -/
def peak (Enc : Vec F S8x256x512 .f32) (E : Vec F S1024x2048 .f32) (Wp : Vec F S512x512 .f32) (Wo : Vec F S512x1024 .f32)
    (bl : FVec F S1x2048 .f32) (bj : FVec F S1x512 .f32) (bo : FVec F S1x1024 .f32) (k : Fin k0_t1_loop.trips) (s : St F) : IVec S8x1024 1 :=
  k0_pay10 bo (k0_pay9 bj (encAt Enc k) (k0_pay8 s.2.1 (gates E s) (k0_pay4 bl) Wp) Wo)

/-- One trip of the decode loop as a function of what it is handed. -/
def step (Enc : Vec F S8x256x512 .f32) (E : Vec F S1024x2048 .f32) (Wh : Vec F S512x2048 .f32) (Wp : Vec F S512x512 .f32) (Wo : Vec F S512x1024 .f32)
    (ln : IVec S8x1 32) (bl : FVec F S1x2048 .f32) (bj : FVec F S1x512 .f32) (bo : FVec F S1x1024 .f32) (lab : IVec S1x1024 32)
    (iv : IVec S8x1024 32) (it : IVec S8x256 32) (k : Fin k0_t1_loop.trips) (s : St F) : St F :=
  (k0_pay15 iv s.1 (k0_pay7 s.2.1 (gates E s) (k0_pay4 bl)) (peak Enc E Wp Wo bl bj bo k s) k0_pay11,
   k0_pay16 iv s.2.1 (k0_pay6 s.2.1 (gates E s) (k0_pay4 bl)) (peak Enc E Wp Wo bl bj bo k s) k0_pay11,
   k0_pay17 iv s.2.2.1 (peak Enc E Wp Wo bl bj bo k s) k0_pay11,
   k0_pay18 iv s.2.2.2.1 (peak Enc E Wp Wo bl bj bo k s) k0_pay11 (k0_pay13 (k0_pay7 s.2.1 (gates E s) (k0_pay4 bl)) Wh),
   k0_pay20 ln lab iv it s.2.2.2.2 (Scf.iv 0#32 1#32 k) (peak Enc E Wp Wo bl bj bo k s) k0_pay11)

end Cert.Decode

end
-- ==== Proof.Trip.lean ====
/-
  One trip of the decode loop, run.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Step
public import Idealize.ShloMosaic.Lib.ValueIdxCore
public import Idealize.ShloMosaic.Lib.Pipeline.Value
public import Idealize.ShloMosaic.Lib.Tactic
public import Idealize.ShloMosaic.Lib.Transfers

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

abbrev m15 : Memref sig .tc .vmem S8x256x512 .f32 := Memref.whole cc0_scratch0
abbrev m16 : Memref sig .tc .vmem S1024x2048 .f32 := Memref.whole cc0_scratch1
abbrev m17 : Memref sig .tc .vmem S8x2048 .f32 := Memref.whole cc0_scratch2
abbrev m18 : Memref sig .tc .vmem S8x512 .f32 := Memref.whole cc0_scratch3
abbrev m19 : Memref sig .tc .vmem S8x1024 .f32 := Memref.whole cc0_scratch4
abbrev m20 : Memref sig .tc .vmem S8x1 .i32 := Memref.whole cc0_scratch5
abbrev m21 : Memref sig .tc .smem S8x1 .i32 := Memref.whole cc0_scratch6

/-- What a trip holds: the three weight blocks it reads, the two tables, the scratch buffers, the token words `p`, the
    transfer's semaphore at zero. -/
def Held (c : Dev nD) (arg5 : Memref sig .tc .vmem S512x2048 .f32) (arg8 : Memref sig .tc .vmem S512x512 .f32) (arg10 : Memref sig .tc .vmem S512x1024 .f32)
    (Enc : Vec F S8x256x512 .f32) (E : Vec F S1024x2048 .f32) (Wh : Vec F S512x2048 .f32) (Wp : Vec F S512x512 .f32) (Wo : Vec F S512x1024 .f32)
    (p : IVec S8x1 32) : sProp 𝕄 :=
  iprop(owns (c : Thread nD τ) arg5 fullShare Wh ∗ owns (c : Thread nD τ) arg8 fullShare Wp ∗ owns (c : Thread nD τ) arg10 fullShare Wo
        ∗ owns (c : Thread nD τ) m15 fullShare Enc ∗ owns (c : Thread nD τ) m16 fullShare E
        ∗ (∃ d, owns (c : Thread nD τ) m17 fullShare d) ∗ (∃ d, owns (c : Thread nD τ) m18 fullShare d)
        ∗ (∃ d, owns (c : Thread nD τ) m19 fullShare d) ∗ (∃ d, owns (c : Thread nD τ) m20 fullShare d)
        ∗ owns (c : Thread nD τ) m21 fullShare p ∗ semVal ((c : Thread nD τ), SemLoc.dma 15) 0 ∗ (∃ W, owes (c : Thread nD τ) 0 W))

/-! A word below 1024 names a row of the gate table. -/

theorem chk1_of (w : BitVec 32) (h : w.toNat < 1024) : k0_chk1 w := by
  intro a; match a with
  | ⟨0, _⟩ => show w.toNat + 1 ≤ 1024; omega
  | ⟨1, _⟩ => show 0 + 2048 ≤ 2048; omega
theorem chk2_of (w : BitVec 32) (h : w.toNat < 1024) : k0_chk2 w := by
  intro a; match a with
  | ⟨0, _⟩ => show w.toNat + 1 ≤ 1024; omega
  | ⟨1, _⟩ => show 0 + 2048 ≤ 2048; omega
theorem chk3_of (w : BitVec 32) (h : w.toNat < 1024) : k0_chk3 w := by
  intro a; match a with
  | ⟨0, _⟩ => show w.toNat + 1 ≤ 1024; omega
  | ⟨1, _⟩ => show 0 + 2048 ≤ 2048; omega
theorem chk4_of (w : BitVec 32) (h : w.toNat < 1024) : k0_chk4 w := by
  intro a; match a with
  | ⟨0, _⟩ => show w.toNat + 1 ≤ 1024; omega
  | ⟨1, _⟩ => show 0 + 2048 ≤ 2048; omega
theorem chk5_of (w : BitVec 32) (h : w.toNat < 1024) : k0_chk5 w := by
  intro a; match a with
  | ⟨0, _⟩ => show w.toNat + 1 ≤ 1024; omega
  | ⟨1, _⟩ => show 0 + 2048 ≤ 2048; omega
theorem chk6_of (w : BitVec 32) (h : w.toNat < 1024) : k0_chk6 w := by
  intro a; match a with
  | ⟨0, _⟩ => show w.toNat + 1 ≤ 1024; omega
  | ⟨1, _⟩ => show 0 + 2048 ≤ 2048; omega
theorem chk7_of (w : BitVec 32) (h : w.toNat < 1024) : k0_chk7 w := by
  intro a; match a with
  | ⟨0, _⟩ => show w.toNat + 1 ≤ 1024; omega
  | ⟨1, _⟩ => show 0 + 2048 ≤ 2048; omega
theorem chk8_of (w : BitVec 32) (h : w.toNat < 1024) : k0_chk8 w := by
  intro a; match a with
  | ⟨0, _⟩ => show w.toNat + 1 ≤ 1024; omega
  | ⟨1, _⟩ => show 0 + 2048 ≤ 2048; omega

/-! The loads of a trip, read as functions of what the buffers hold. -/

theorem ldw0 (X : Vec F S8x1 .i32) (inb) (j : (Rect.unit (s := S8x1) ![0, 0] ![1, 1] inb).shape.Idx) :
    View.ld X (Rect.unit (s := S8x1) ![0, 0] ![1, 1] inb) j = tokAt X 0 := by
  refine congrArg X (funext fun a => Fin.ext ?_)
  match a with
  | ⟨0, _⟩ => have h : (j 0).val < 1 := (j 0).isLt
              show 0 + 1 * (j 0).val = 0; omega
  | ⟨1, _⟩ => have h : (j 1).val < 1 := (j 1).isLt
              show 0 + 1 * (j 1).val = 0; omega
theorem ldw1 (X : Vec F S8x1 .i32) (inb) (j : (Rect.unit (s := S8x1) ![1, 0] ![1, 1] inb).shape.Idx) :
    View.ld X (Rect.unit (s := S8x1) ![1, 0] ![1, 1] inb) j = tokAt X 1 := by
  refine congrArg X (funext fun a => Fin.ext ?_)
  match a with
  | ⟨0, _⟩ => have h : (j 0).val < 1 := (j 0).isLt
              show 1 + 1 * (j 0).val = 1; omega
  | ⟨1, _⟩ => have h : (j 1).val < 1 := (j 1).isLt
              show 0 + 1 * (j 1).val = 0; omega
theorem ldw2 (X : Vec F S8x1 .i32) (inb) (j : (Rect.unit (s := S8x1) ![2, 0] ![1, 1] inb).shape.Idx) :
    View.ld X (Rect.unit (s := S8x1) ![2, 0] ![1, 1] inb) j = tokAt X 2 := by
  refine congrArg X (funext fun a => Fin.ext ?_)
  match a with
  | ⟨0, _⟩ => have h : (j 0).val < 1 := (j 0).isLt
              show 2 + 1 * (j 0).val = 2; omega
  | ⟨1, _⟩ => have h : (j 1).val < 1 := (j 1).isLt
              show 0 + 1 * (j 1).val = 0; omega
theorem ldw3 (X : Vec F S8x1 .i32) (inb) (j : (Rect.unit (s := S8x1) ![3, 0] ![1, 1] inb).shape.Idx) :
    View.ld X (Rect.unit (s := S8x1) ![3, 0] ![1, 1] inb) j = tokAt X 3 := by
  refine congrArg X (funext fun a => Fin.ext ?_)
  match a with
  | ⟨0, _⟩ => have h : (j 0).val < 1 := (j 0).isLt
              show 3 + 1 * (j 0).val = 3; omega
  | ⟨1, _⟩ => have h : (j 1).val < 1 := (j 1).isLt
              show 0 + 1 * (j 1).val = 0; omega
theorem ldw4 (X : Vec F S8x1 .i32) (inb) (j : (Rect.unit (s := S8x1) ![4, 0] ![1, 1] inb).shape.Idx) :
    View.ld X (Rect.unit (s := S8x1) ![4, 0] ![1, 1] inb) j = tokAt X 4 := by
  refine congrArg X (funext fun a => Fin.ext ?_)
  match a with
  | ⟨0, _⟩ => have h : (j 0).val < 1 := (j 0).isLt
              show 4 + 1 * (j 0).val = 4; omega
  | ⟨1, _⟩ => have h : (j 1).val < 1 := (j 1).isLt
              show 0 + 1 * (j 1).val = 0; omega
theorem ldw5 (X : Vec F S8x1 .i32) (inb) (j : (Rect.unit (s := S8x1) ![5, 0] ![1, 1] inb).shape.Idx) :
    View.ld X (Rect.unit (s := S8x1) ![5, 0] ![1, 1] inb) j = tokAt X 5 := by
  refine congrArg X (funext fun a => Fin.ext ?_)
  match a with
  | ⟨0, _⟩ => have h : (j 0).val < 1 := (j 0).isLt
              show 5 + 1 * (j 0).val = 5; omega
  | ⟨1, _⟩ => have h : (j 1).val < 1 := (j 1).isLt
              show 0 + 1 * (j 1).val = 0; omega
theorem ldw6 (X : Vec F S8x1 .i32) (inb) (j : (Rect.unit (s := S8x1) ![6, 0] ![1, 1] inb).shape.Idx) :
    View.ld X (Rect.unit (s := S8x1) ![6, 0] ![1, 1] inb) j = tokAt X 6 := by
  refine congrArg X (funext fun a => Fin.ext ?_)
  match a with
  | ⟨0, _⟩ => have h : (j 0).val < 1 := (j 0).isLt
              show 6 + 1 * (j 0).val = 6; omega
  | ⟨1, _⟩ => have h : (j 1).val < 1 := (j 1).isLt
              show 0 + 1 * (j 1).val = 0; omega
theorem ldw7 (X : Vec F S8x1 .i32) (inb) (j : (Rect.unit (s := S8x1) ![7, 0] ![1, 1] inb).shape.Idx) :
    View.ld X (Rect.unit (s := S8x1) ![7, 0] ![1, 1] inb) j = tokAt X 7 := by
  refine congrArg X (funext fun a => Fin.ext ?_)
  match a with
  | ⟨0, _⟩ => have h : (j 0).val < 1 := (j 0).isLt
              show 7 + 1 * (j 0).val = 7; omega
  | ⟨1, _⟩ => have h : (j 1).val < 1 := (j 1).isLt
              show 0 + 1 * (j 1).val = 0; omega
theorem ld_row (E : Vec F S1024x2048 .f32) (w : BitVec 32) (hw : w.toNat < 1024) (inb) :
    View.ld E (Rect.unit (s := S1024x2048) ![(Scalar.indexCast w).toNat, 0] ![1, 2048] inb) = eihRow E w := by
  funext j
  refine congrArg E (funext fun a => ?_)
  match a with
  | ⟨0, _⟩ =>
    apply Fin.ext
    have h0 : (j 0).val = 0 := by have : (j 0).val < 1 := (j 0).isLt; omega
    show w.toNat + 1 * (j 0).val = w.toNat % 1024
    rw [h0, Nat.mod_eq_of_lt hw]; omega
  | ⟨1, _⟩ => apply Fin.ext; show 0 + 1 * (j 1).val = (j 1).val; omega

theorem ldrow0 (E : Vec F S1024x2048 .f32) (p : Vec F S8x1 .i32) (hp : ∀ i, (p i).toNat < 1024) (inb)
    (j : (Rect.unit (s := S8x1) ![0, 0] ![1, 1] inb).shape.Idx) (inb') :
    View.ld E (Rect.unit (s := S1024x2048) ![(Scalar.indexCast (View.ld p (Rect.unit (s := S8x1) ![0, 0] ![1, 1] inb) j)).toNat, 0] ![1, 2048] inb')
      = eihRow E (tokAt p 0) := by
  have e := ldw0 (F := F) p inb j
  exact (ld_row E _ (by rw [e]; exact hp _) inb').trans (congrArg (eihRow E) e)
theorem ldrow1 (E : Vec F S1024x2048 .f32) (p : Vec F S8x1 .i32) (hp : ∀ i, (p i).toNat < 1024) (inb)
    (j : (Rect.unit (s := S8x1) ![1, 0] ![1, 1] inb).shape.Idx) (inb') :
    View.ld E (Rect.unit (s := S1024x2048) ![(Scalar.indexCast (View.ld p (Rect.unit (s := S8x1) ![1, 0] ![1, 1] inb) j)).toNat, 0] ![1, 2048] inb')
      = eihRow E (tokAt p 1) := by
  have e := ldw1 (F := F) p inb j
  exact (ld_row E _ (by rw [e]; exact hp _) inb').trans (congrArg (eihRow E) e)
theorem ldrow2 (E : Vec F S1024x2048 .f32) (p : Vec F S8x1 .i32) (hp : ∀ i, (p i).toNat < 1024) (inb)
    (j : (Rect.unit (s := S8x1) ![2, 0] ![1, 1] inb).shape.Idx) (inb') :
    View.ld E (Rect.unit (s := S1024x2048) ![(Scalar.indexCast (View.ld p (Rect.unit (s := S8x1) ![2, 0] ![1, 1] inb) j)).toNat, 0] ![1, 2048] inb')
      = eihRow E (tokAt p 2) := by
  have e := ldw2 (F := F) p inb j
  exact (ld_row E _ (by rw [e]; exact hp _) inb').trans (congrArg (eihRow E) e)
theorem ldrow3 (E : Vec F S1024x2048 .f32) (p : Vec F S8x1 .i32) (hp : ∀ i, (p i).toNat < 1024) (inb)
    (j : (Rect.unit (s := S8x1) ![3, 0] ![1, 1] inb).shape.Idx) (inb') :
    View.ld E (Rect.unit (s := S1024x2048) ![(Scalar.indexCast (View.ld p (Rect.unit (s := S8x1) ![3, 0] ![1, 1] inb) j)).toNat, 0] ![1, 2048] inb')
      = eihRow E (tokAt p 3) := by
  have e := ldw3 (F := F) p inb j
  exact (ld_row E _ (by rw [e]; exact hp _) inb').trans (congrArg (eihRow E) e)
theorem ldrow4 (E : Vec F S1024x2048 .f32) (p : Vec F S8x1 .i32) (hp : ∀ i, (p i).toNat < 1024) (inb)
    (j : (Rect.unit (s := S8x1) ![4, 0] ![1, 1] inb).shape.Idx) (inb') :
    View.ld E (Rect.unit (s := S1024x2048) ![(Scalar.indexCast (View.ld p (Rect.unit (s := S8x1) ![4, 0] ![1, 1] inb) j)).toNat, 0] ![1, 2048] inb')
      = eihRow E (tokAt p 4) := by
  have e := ldw4 (F := F) p inb j
  exact (ld_row E _ (by rw [e]; exact hp _) inb').trans (congrArg (eihRow E) e)
theorem ldrow5 (E : Vec F S1024x2048 .f32) (p : Vec F S8x1 .i32) (hp : ∀ i, (p i).toNat < 1024) (inb)
    (j : (Rect.unit (s := S8x1) ![5, 0] ![1, 1] inb).shape.Idx) (inb') :
    View.ld E (Rect.unit (s := S1024x2048) ![(Scalar.indexCast (View.ld p (Rect.unit (s := S8x1) ![5, 0] ![1, 1] inb) j)).toNat, 0] ![1, 2048] inb')
      = eihRow E (tokAt p 5) := by
  have e := ldw5 (F := F) p inb j
  exact (ld_row E _ (by rw [e]; exact hp _) inb').trans (congrArg (eihRow E) e)
theorem ldrow6 (E : Vec F S1024x2048 .f32) (p : Vec F S8x1 .i32) (hp : ∀ i, (p i).toNat < 1024) (inb)
    (j : (Rect.unit (s := S8x1) ![6, 0] ![1, 1] inb).shape.Idx) (inb') :
    View.ld E (Rect.unit (s := S1024x2048) ![(Scalar.indexCast (View.ld p (Rect.unit (s := S8x1) ![6, 0] ![1, 1] inb) j)).toNat, 0] ![1, 2048] inb')
      = eihRow E (tokAt p 6) := by
  have e := ldw6 (F := F) p inb j
  exact (ld_row E _ (by rw [e]; exact hp _) inb').trans (congrArg (eihRow E) e)
theorem ldrow7 (E : Vec F S1024x2048 .f32) (p : Vec F S8x1 .i32) (hp : ∀ i, (p i).toNat < 1024) (inb)
    (j : (Rect.unit (s := S8x1) ![7, 0] ![1, 1] inb).shape.Idx) (inb') :
    View.ld E (Rect.unit (s := S1024x2048) ![(Scalar.indexCast (View.ld p (Rect.unit (s := S8x1) ![7, 0] ![1, 1] inb) j)).toNat, 0] ![1, 2048] inb')
      = eihRow E (tokAt p 7) := by
  have e := ldw7 (F := F) p inb j
  exact (ld_row E _ (by rw [e]; exact hp _) inb').trans (congrArg (eihRow E) e)
theorem cov2048 {κ : Kind} {sp : Space} (v : View sig κ sp S8x2048 .f32) (inb) (w : Vec F S8x2048 .f32) :
    v.readCov [(⟨Rect.unit (s := S8x2048) ![0, 0] ![8, 2048] inb, w⟩ : View.Piece (Elt F) S8x2048 .f32)]
      (Rect.unit (s := S8x2048) ![0, 0] ![8, 2048] inb).toLoadRect = w :=
  View.readCov_unit_zero v (by decide) inb w
theorem cov512 {κ : Kind} {sp : Space} (v : View sig κ sp S8x512 .f32) (inb) (w : Vec F S8x512 .f32) :
    v.readCov [(⟨Rect.unit (s := S8x512) ![0, 0] ![8, 512] inb, w⟩ : View.Piece (Elt F) S8x512 .f32)]
      (Rect.unit (s := S8x512) ![0, 0] ![8, 512] inb).toLoadRect = w :=
  View.readCov_unit_zero v (by decide) inb w
theorem cov1024 {κ : Kind} {sp : Space} (v : View sig κ sp S8x1024 .f32) (inb) (w : Vec F S8x1024 .f32) :
    v.readCov [(⟨Rect.unit (s := S8x1024) ![0, 0] ![8, 1024] inb, w⟩ : View.Piece (Elt F) S8x1024 .f32)]
      (Rect.unit (s := S8x1024) ![0, 0] ![8, 1024] inb).toLoadRect = w :=
  View.readCov_unit_zero v (by decide) inb w
theorem ldz2048 (X : Vec F S512x2048 .f32) (inb) : View.ld X (Rect.unit (s := S512x2048) ![0, 0] ![512, 2048] inb) = X :=
  View.ld_unit_zero (S := S512x2048) (by decide) inb X
theorem ldz512 (X : Vec F S512x512 .f32) (inb) : View.ld X (Rect.unit (s := S512x512) ![0, 0] ![512, 512] inb) = X :=
  View.ld_unit_zero (S := S512x512) (by decide) inb X
theorem ldz1024 (X : Vec F S512x1024 .f32) (inb) : View.ld X (Rect.unit (s := S512x1024) ![0, 0] ![512, 1024] inb) = X :=
  View.ld_unit_zero (S := S512x1024) (by decide) inb X

/-- Reading a buffer after one store of the whole of it gives what was stored. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- Storing a column of words to the staging scratch, moving the scratch whole and reading what arrived gives the column. -/
theorem back_of (f : m21.view.ty.Contents (Elt F)) (g : m20.view.ty.Contents (Elt F)) (iv : IVec S8x1024 32) (p : IVec S8x1 32)
    (pk : IVec S8x1024 1) (big : IVec S8x1024 32) (inb) {T : Vec F S8x1 .i32}
    (hT : T = m20.view.read (Elt F) (m20.view.writes (Elt F) g
      [(⟨Rect.unit (s := S8x1) ![0, 0] S8x1.size inb, k0_pay19 iv p pk big⟩ : View.Piece (Elt F) S8x1 .i32)])) :
    m21.view.read (Elt F) (m21.view.writes (Elt F) f [(⟨Rect.whole S8x1, T⟩ : View.Piece (Elt F) S8x1 .i32)]) = k0_pay17 iv p pk big := by
  rw [View.read_writes_whole, hT]
  exact (read_store_whole (S := S8x1) m20.view g (by decide) inb _).trans (shapeCast_self _ _)

/-- The values one trip computes from the eight rows it loads and the frame it loads are `step`, once those are the rows
    its tokens name and the trip's frame. -/
theorem step_of (Enc : Vec F S8x256x512 .f32) (E : Vec F S1024x2048 .f32) (Wh : Vec F S512x2048 .f32) (Wp : Vec F S512x512 .f32) (Wo : Vec F S512x1024 .f32)
    (ln : IVec S8x1 32) (bl : FVec F S1x2048 .f32) (bj : FVec F S1x512 .f32) (bo : FVec F S1x1024 .f32) (lab : IVec S1x1024 32)
    (iv : IVec S8x1024 32) (it : IVec S8x256 32) (k : Fin k0_t1_loop.trips)
    (h cc : FVec F S8x512 .f32) (p : IVec S8x1 32) (g : Vec F S8x2048 .f32) (y : IVec S8x256 32)
    {R0 R1 R2 R3 R4 R5 R6 R7 : Vec F S1x2048 .f32} {e : Vec F S8x1x512 .f32}
    (h0 : R0 = eihRow E (tokAt p 0)) (h1 : R1 = eihRow E (tokAt p 1)) (h2 : R2 = eihRow E (tokAt p 2)) (h3 : R3 = eihRow E (tokAt p 3)) (h4 : R4 = eihRow E (tokAt p 4)) (h5 : R5 = eihRow E (tokAt p 5)) (h6 : R6 = eihRow E (tokAt p 6)) (h7 : R7 = eihRow E (tokAt p 7)) (he : e = encAt Enc k) :
    ((k0_pay15 iv h (k0_pay7 cc (k0_pay3 g R0 R1 R2 R3 R4 R5 R6 R7) (k0_pay4 bl)) (k0_pay10 bo (k0_pay9 bj e (k0_pay8 cc (k0_pay3 g R0 R1 R2 R3 R4 R5 R6 R7) (k0_pay4 bl) Wp) Wo)) k0_pay11,
      k0_pay16 iv cc (k0_pay6 cc (k0_pay3 g R0 R1 R2 R3 R4 R5 R6 R7) (k0_pay4 bl)) (k0_pay10 bo (k0_pay9 bj e (k0_pay8 cc (k0_pay3 g R0 R1 R2 R3 R4 R5 R6 R7) (k0_pay4 bl) Wp) Wo)) k0_pay11,
      k0_pay17 iv p (k0_pay10 bo (k0_pay9 bj e (k0_pay8 cc (k0_pay3 g R0 R1 R2 R3 R4 R5 R6 R7) (k0_pay4 bl) Wp) Wo)) k0_pay11,
      k0_pay18 iv g (k0_pay10 bo (k0_pay9 bj e (k0_pay8 cc (k0_pay3 g R0 R1 R2 R3 R4 R5 R6 R7) (k0_pay4 bl) Wp) Wo)) k0_pay11 (k0_pay13 (k0_pay7 cc (k0_pay3 g R0 R1 R2 R3 R4 R5 R6 R7) (k0_pay4 bl)) Wh),
      k0_pay20 ln lab iv it y (Scf.iv 0#32 1#32 k) (k0_pay10 bo (k0_pay9 bj e (k0_pay8 cc (k0_pay3 g R0 R1 R2 R3 R4 R5 R6 R7) (k0_pay4 bl) Wp) Wo)) k0_pay11) : St F)
      = step Enc E Wh Wp Wo ln bl bj bo lab iv it k (h, cc, p, g, y) := by
  subst h0 h1 h2 h3 h4 h5 h6 h7 he; rfl
set_option maxRecDepth 65536 in
set_option maxHeartbeats 4000000 in
/-- One trip of the loop, from what it holds: it computes `step` and holds the same with the new tokens. -/
theorem trip_run (c : Dev nD) (arg0 : Memref sig .tc .vmem S8x256x512 .f32) (harg0 : arg0.IsWhole) (arg1 : Memref sig .tc .vmem S8x1 .i32) (harg1 : arg1.IsWhole) (arg2 : Memref sig .tc .vmem S2x8x512 .f32) (harg2 : arg2.IsWhole) (arg3 : Memref sig .tc .vmem S1024x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .i32) (harg12 : arg12.IsWhole) (arg13 : Memref sig .tc .vmem S8x256 .i32) (harg13 : arg13.IsWhole) (arg14 : Memref sig .tc .vmem S2x8x512 .f32) (harg14 : arg14.IsWhole)
    (Enc : Vec F S8x256x512 .f32) (E : Vec F S1024x2048 .f32) (Wh : Vec F S512x2048 .f32) (Wp : Vec F S512x512 .f32) (Wo : Vec F S512x1024 .f32)
    (ln : IVec S8x1 32) (bl : FVec F S1x2048 .f32) (bj : FVec F S1x512 .f32) (bo : FVec F S1x1024 .f32) (lab : IVec S1x1024 32)
    (iv : IVec S8x1024 32) (it : IVec S8x256 32) (k : Fin k0_t1_loop.trips) (s : St F)
    (hp : ∀ i, (s.2.2.1 i).toNat < 1024) :
    Held c arg5 arg8 arg10 Enc E Wh Wp Wo s.2.2.1
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 ln bl bj bo lab iv it k s)
          (fun s' => iprop(⌜s' = step Enc E Wh Wp Wo ln bl bj bo lab iv it k s⌝ ∗ Held c arg5 arg8 arg10 Enc E Wh Wp Wo s'.2.2.1)) := by
  obtain ⟨h, cc, p, g, y⟩ := s
  unfold Held owns k0_t1_body
  iintro ⟨⟨%f5, %h5, H5⟩, ⟨%f8, %h8, H8⟩, ⟨%f10, %h10, H10⟩, ⟨%f15, %h15, H15⟩, ⟨%f16, %h16, H16⟩, ⟨%d17, %f17, -, H17⟩,
    ⟨%d18, %f18, -, H18⟩, ⟨%d19, %f19, -, H19⟩, ⟨%d20, %f20, -, H20⟩, ⟨%f21, %h21, H21⟩, HS, ⟨%W, HW⟩⟩
  subst h21
  sl_exec (disch := first | exact chk1_of _ (hp _) | exact chk2_of _ (hp _) | exact chk3_of _ (hp _) | exact chk4_of _ (hp _) | exact chk5_of _ (hp _) | exact chk6_of _ (hp _) | exact chk7_of _ (hp _) | exact chk8_of _ (hp _))
  sl_step
  isplitr
  · ipureintro
    sl_unfold_words
    have hpr : ∀ i, (m21.view.read (Elt F) f21 i).toNat < 1024 := hp
    simp only [View.readAt_eq_ld, h5, h8, h10, h15, h16, ldz512, ldz1024, ldz2048]
    simp only [cov512, cov1024, cov2048]
    exact step_of Enc E Wh Wp Wo ln bl bj bo lab iv it k h cc _ g y (ldrow0 _ _ hpr _ _ _) (ldrow1 _ _ hpr _ _ _) (ldrow2 _ _ hpr _ _ _)
      (ldrow3 _ _ hpr _ _ _) (ldrow4 _ _ hpr _ _ _) (ldrow5 _ _ hpr _ _ _) (ldrow6 _ _ hpr _ _ _) (ldrow7 _ _ hpr _ _ _) rfl
  isplitl [H5]; · iexists _; isplitr; swap; · iexact H5
                  ipureintro; exact h5
  isplitl [H8]; · iexists _; isplitr; swap; · iexact H8
                  ipureintro; exact h8
  isplitl [H10]; · iexists _; isplitr; swap; · iexact H10
                   ipureintro; exact h10
  isplitl [H15]; · iexists _; isplitr; swap; · iexact H15
                   ipureintro; exact h15
  isplitl [H16]; · iexists _; isplitr; swap; · iexact H16
                   ipureintro; exact h16
  isplitl [H17]; · iexists _, _; isplitr; swap; · iexact H17
                   ipureintro; rfl
  isplitl [H18]; · iexists _, _; isplitr; swap; · iexact H18
                   ipureintro; rfl
  isplitl [H19]; · iexists _, _; isplitr; swap; · iexact H19
                   ipureintro; rfl
  isplitl [H20]; · iexists _, _; isplitr; swap; · iexact H20
                   ipureintro; rfl
  isplitl [H21]
  · iexists _; isplitr; swap; · iexact H21
    ipureintro
    sl_unfold_words
    exact back_of _ _ _ _ _ _ _ rfl
  isplitl [HS]; · iexact HS
  iexists _; iexact HW

end Cert.Decode

end
-- ==== Proof.Body.lean ====
/-
  The kernel's body run once: the two tables and the carried values prepared, 256 trips by `trip_run`, the results stored.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Trip
public import Idealize.ShloMosaic.Lib.ValueIdxCore
public import Idealize.ShloMosaic.Lib.Pipeline.Value
public import Idealize.ShloMosaic.Lib.WritesUnit
public import Idealize.ShloMosaic.Lib.Tactic
public import Idealize.ShloMosaic.Lib.Transfers

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-- Row `0` and row `1` of the cache block. -/
def row0 (X2 : Vec F S2x8x512 .f32) : Vec F S1x8x512 .f32 := View.ld X2 (Rect.unit (s := S2x8x512) ![0, 0, 0] S1x8x512.size inb_S2x8x512_S1x8x512_0_0_0)
def row1 (X2 : Vec F S2x8x512 .f32) : Vec F S1x8x512 .f32 := View.ld X2 (Rect.unit (s := S2x8x512) ![1, 0, 0] S1x8x512.size inb_S2x8x512_S1x8x512_1_0_0)

/-- What the first trip is handed. -/
def start (X2 : Vec F S2x8x512 .f32) (X5 : Vec F S512x2048 .f32) : St F :=
  (k0_pay28 (row0 X2), k0_pay29 (row1 X2), k0_pay30, k0_pay32 (row0 X2) X5, k0_pay31)

/-- What trip `k` is handed: `k` steps from the start. -/
def stAt (X0 : Vec F S8x256x512 .f32) (X1 : Vec F S8x1 .i32) (X2 : Vec F S2x8x512 .f32) (X3 : Vec F S1024x512 .f32) (X4 : Vec F S512x2048 .f32) (X5 : Vec F S512x2048 .f32) (X6 : Vec F S1x2048 .f32) (X7 : Vec F S512x512 .f32) (X8 : Vec F S512x512 .f32) (X9 : Vec F S1x512 .f32) (X10 : Vec F S512x1024 .f32) (X11 : Vec F S1x1024 .f32) (X12 : Vec F S1x1024 .i32) : ℕ → St F
  | 0 => start X2 X5
  | k + 1 => if h : k < k0_t1_loop.trips then
      step (k0_pay21 X0 X7) (k0_pay22 X3 X4) X5 X8 X10 (k0_pay23 X1) (k0_pay24 X6) (k0_pay25 X9) (k0_pay26 X11) (k0_pay27 X12) (iota .tc S8x1024 32 [1] iota_S8x1024_d1_w32) (iota .tc S8x256 32 [1] iota_S8x256_d1_w32) ⟨k, h⟩ (stAt X0 X1 X2 X3 X4 X5 X6 X7 X8 X9 X10 X11 X12 k) else stAt X0 X1 X2 X3 X4 X5 X6 X7 X8 X9 X10 X11 X12 k

/-- The two rows of the result cache. -/
def cacheOut (s : St F) : Vec F S2x8x512 .f32 := fun y =>
  if (y 0).val = 0 then k0_pay1 s.1 (ix3 0 (y 1) (y 2)) else k0_pay2 s.2.1 (ix3 0 (y 1) (y 2))

theorem stAt_succ (X0 : Vec F S8x256x512 .f32) (X1 : Vec F S8x1 .i32) (X2 : Vec F S2x8x512 .f32) (X3 : Vec F S1024x512 .f32) (X4 : Vec F S512x2048 .f32) (X5 : Vec F S512x2048 .f32) (X6 : Vec F S1x2048 .f32) (X7 : Vec F S512x512 .f32) (X8 : Vec F S512x512 .f32) (X9 : Vec F S1x512 .f32) (X10 : Vec F S512x1024 .f32) (X11 : Vec F S1x1024 .f32) (X12 : Vec F S1x1024 .i32) (k : Fin k0_t1_loop.trips) : stAt X0 X1 X2 X3 X4 X5 X6 X7 X8 X9 X10 X11 X12 (k.val + 1) = step (k0_pay21 X0 X7) (k0_pay22 X3 X4) X5 X8 X10 (k0_pay23 X1) (k0_pay24 X6) (k0_pay25 X9) (k0_pay26 X11) (k0_pay27 X12) (iota .tc S8x1024 32 [1] iota_S8x1024_d1_w32) (iota .tc S8x256 32 [1] iota_S8x256_d1_w32) k (stAt X0 X1 X2 X3 X4 X5 X6 X7 X8 X9 X10 X11 X12 k.val) :=
  dif_pos k.isLt

theorem read_pay21 {κ κ' κ'' : Kind} {sp sp' sp'' : Space} (v : View sig κ sp S8x256x512 .f32) (f : v.ty.Contents (Elt F))
    (u : View sig κ' sp' S8x256x512 .f32) (w : View sig κ'' sp'' S512x512 .f32) {fu : u.ty.Contents (Elt F)} {fw : w.ty.Contents (Elt F)}
    {X0 : Vec F S8x256x512 .f32} {X7 : Vec F S512x512 .f32} (hu : u.read (Elt F) fu = X0) (hw : w.read (Elt F) fw = X7) (inb) {inb0} {inb7} :
    v.read (Elt F) (v.writes (Elt F) f [(⟨Rect.unit (s := S8x256x512) ![0, 0, 0] S8x256x512.size inb,
      k0_pay21 (View.readAt (Elt F) u (Rect.unit (s := S8x256x512) ![0, 0, 0] S8x256x512.size inb0).toLoadRect fu)
        (View.readAt (Elt F) w (Rect.unit (s := S512x512) ![0, 0] S512x512.size inb7).toLoadRect fw)⟩ : View.Piece (Elt F) S8x256x512 .f32)])
      = k0_pay21 X0 X7 := by
  rw [View.readAt_eq_ld, View.readAt_eq_ld, hu, hw, View.ld_unit_zero (S := S8x256x512) (by decide), View.ld_unit_zero (S := S512x512) (by decide)]
  exact read_store_whole (S := S8x256x512) v f (by decide) inb _

theorem read_pay22 {κ κ' κ'' : Kind} {sp sp' sp'' : Space} (v : View sig κ sp S1024x2048 .f32) (f : v.ty.Contents (Elt F))
    (u : View sig κ' sp' S1024x512 .f32) (w : View sig κ'' sp'' S512x2048 .f32) {fu : u.ty.Contents (Elt F)} {fw : w.ty.Contents (Elt F)}
    {X3 : Vec F S1024x512 .f32} {X4 : Vec F S512x2048 .f32} (hu : u.read (Elt F) fu = X3) (hw : w.read (Elt F) fw = X4) (inb) {inb0} {inb7} :
    v.read (Elt F) (v.writes (Elt F) f [(⟨Rect.unit (s := S1024x2048) ![0, 0] S1024x2048.size inb,
      k0_pay22 (View.readAt (Elt F) u (Rect.unit (s := S1024x512) ![0, 0] S1024x512.size inb0).toLoadRect fu)
        (View.readAt (Elt F) w (Rect.unit (s := S512x2048) ![0, 0] S512x2048.size inb7).toLoadRect fw)⟩ : View.Piece (Elt F) S1024x2048 .f32)])
      = k0_pay22 X3 X4 := by
  rw [View.readAt_eq_ld, View.readAt_eq_ld, hu, hw, View.ld_unit_zero (S := S1024x512) (by decide), View.ld_unit_zero (S := S512x2048) (by decide)]
  exact read_store_whole (S := S1024x2048) v f (by decide) inb _

/-- Eight stores of the zero word leave the column of zeros. -/
theorem zeros {κ : Kind} {sp : Space} (v : View sig κ sp S8x1 .i32) (f : v.ty.Contents (Elt F)) (i0 i1 i2 i3 i4 i5 i6 i7) :
    v.read (Elt F) (v.writes (Elt F) f [(⟨Rect.unit (s := S8x1) ![7, 0] S1x1.size i7, fun _ => 0#32⟩ : View.Piece (Elt F) S8x1 .i32),
      (⟨Rect.unit (s := S8x1) ![6, 0] S1x1.size i6, fun _ => 0#32⟩ : View.Piece (Elt F) S8x1 .i32),
      (⟨Rect.unit (s := S8x1) ![5, 0] S1x1.size i5, fun _ => 0#32⟩ : View.Piece (Elt F) S8x1 .i32),
      (⟨Rect.unit (s := S8x1) ![4, 0] S1x1.size i4, fun _ => 0#32⟩ : View.Piece (Elt F) S8x1 .i32),
      (⟨Rect.unit (s := S8x1) ![3, 0] S1x1.size i3, fun _ => 0#32⟩ : View.Piece (Elt F) S8x1 .i32),
      (⟨Rect.unit (s := S8x1) ![2, 0] S1x1.size i2, fun _ => 0#32⟩ : View.Piece (Elt F) S8x1 .i32),
      (⟨Rect.unit (s := S8x1) ![1, 0] S1x1.size i1, fun _ => 0#32⟩ : View.Piece (Elt F) S8x1 .i32),
      (⟨Rect.unit (s := S8x1) ![0, 0] S1x1.size i0, fun _ => 0#32⟩ : View.Piece (Elt F) S8x1 .i32)]) = k0_pay30 := by
  funext y
  show _ = (0#32 : BitVec 32)
  have hy : (y 0).val < 8 := (y 0).isLt
  have hy1 : (y 1).val < 1 := (y 1).isLt
  by_cases c7 : (y 0).val = 7
  · exact View.read_writes_cons_unit_of_mem v f i7 _ _ y (ix2 0 0) rfl fun a => by
      match a with
      | ⟨0, _⟩ => exact c7
      | ⟨1, _⟩ => show (y 1).val = 0 + 0; omega
  rw [View.read_writes_cons_unit_of_not_mem v f i7 _ _ y rfl 0 (by show (y 0).val < 7 ∨ 7 + 1 ≤ (y 0).val; omega)]
  by_cases c6 : (y 0).val = 6
  · exact View.read_writes_cons_unit_of_mem v f i6 _ _ y (ix2 0 0) rfl fun a => by
      match a with
      | ⟨0, _⟩ => exact c6
      | ⟨1, _⟩ => show (y 1).val = 0 + 0; omega
  rw [View.read_writes_cons_unit_of_not_mem v f i6 _ _ y rfl 0 (by show (y 0).val < 6 ∨ 6 + 1 ≤ (y 0).val; omega)]
  by_cases c5 : (y 0).val = 5
  · exact View.read_writes_cons_unit_of_mem v f i5 _ _ y (ix2 0 0) rfl fun a => by
      match a with
      | ⟨0, _⟩ => exact c5
      | ⟨1, _⟩ => show (y 1).val = 0 + 0; omega
  rw [View.read_writes_cons_unit_of_not_mem v f i5 _ _ y rfl 0 (by show (y 0).val < 5 ∨ 5 + 1 ≤ (y 0).val; omega)]
  by_cases c4 : (y 0).val = 4
  · exact View.read_writes_cons_unit_of_mem v f i4 _ _ y (ix2 0 0) rfl fun a => by
      match a with
      | ⟨0, _⟩ => exact c4
      | ⟨1, _⟩ => show (y 1).val = 0 + 0; omega
  rw [View.read_writes_cons_unit_of_not_mem v f i4 _ _ y rfl 0 (by show (y 0).val < 4 ∨ 4 + 1 ≤ (y 0).val; omega)]
  by_cases c3 : (y 0).val = 3
  · exact View.read_writes_cons_unit_of_mem v f i3 _ _ y (ix2 0 0) rfl fun a => by
      match a with
      | ⟨0, _⟩ => exact c3
      | ⟨1, _⟩ => show (y 1).val = 0 + 0; omega
  rw [View.read_writes_cons_unit_of_not_mem v f i3 _ _ y rfl 0 (by show (y 0).val < 3 ∨ 3 + 1 ≤ (y 0).val; omega)]
  by_cases c2 : (y 0).val = 2
  · exact View.read_writes_cons_unit_of_mem v f i2 _ _ y (ix2 0 0) rfl fun a => by
      match a with
      | ⟨0, _⟩ => exact c2
      | ⟨1, _⟩ => show (y 1).val = 0 + 0; omega
  rw [View.read_writes_cons_unit_of_not_mem v f i2 _ _ y rfl 0 (by show (y 0).val < 2 ∨ 2 + 1 ≤ (y 0).val; omega)]
  by_cases c1 : (y 0).val = 1
  · exact View.read_writes_cons_unit_of_mem v f i1 _ _ y (ix2 0 0) rfl fun a => by
      match a with
      | ⟨0, _⟩ => exact c1
      | ⟨1, _⟩ => show (y 1).val = 0 + 0; omega
  rw [View.read_writes_cons_unit_of_not_mem v f i1 _ _ y rfl 0 (by show (y 0).val < 1 ∨ 1 + 1 ≤ (y 0).val; omega)]
  by_cases c0 : (y 0).val = 0
  · exact View.read_writes_cons_unit_of_mem v f i0 _ _ y (ix2 0 0) rfl fun a => by
      match a with
      | ⟨0, _⟩ => exact c0
      | ⟨1, _⟩ => show (y 1).val = 0 + 0; omega
  rw [View.read_writes_cons_unit_of_not_mem v f i0 _ _ y rfl 0 (by show (y 0).val < 0 ∨ 0 + 1 ≤ (y 0).val; omega)]
  omega

/-- The two stores of rows leave the cache of both. -/
theorem read_cache {κ : Kind} {sp : Space} (v : View sig κ sp S2x8x512 .f32) (f : v.ty.Contents (Elt F)) (s : St F) (i0 i1) :
    v.read (Elt F) (v.writes (Elt F) f [(⟨Rect.unit (s := S2x8x512) ![1, 0, 0] S1x8x512.size i1, k0_pay2 s.2.1⟩ : View.Piece (Elt F) S2x8x512 .f32),
      (⟨Rect.unit (s := S2x8x512) ![0, 0, 0] S1x8x512.size i0, k0_pay1 s.1⟩ : View.Piece (Elt F) S2x8x512 .f32)]) = cacheOut s := by
  funext y
  unfold cacheOut
  have hy : (y 0).val < 2 := (y 0).isLt
  by_cases h : (y 0).val = 0
  · rw [if_pos h, View.read_writes_cons_unit_of_not_mem v f i1 _ _ y rfl 0 (Or.inl (by show (y 0).val < 1; omega))]
    exact View.read_writes_cons_unit_of_mem v f i0 _ _ y (ix3 0 (y 1) (y 2)) rfl fun a => by
      match a with
      | ⟨0, _⟩ => exact h
      | ⟨1, _⟩ => exact (Nat.zero_add _).symm
      | ⟨2, _⟩ => exact (Nat.zero_add _).symm
  · rw [if_neg h]
    exact View.read_writes_cons_unit_of_mem v f i1 _ _ y (ix3 0 (y 1) (y 2)) rfl fun a => by
      match a with
      | ⟨0, _⟩ => show (y 0).val = 1 + 0; omega
      | ⟨1, _⟩ => exact (Nat.zero_add _).symm
      | ⟨2, _⟩ => exact (Nat.zero_add _).symm

set_option maxRecDepth 65536 in
set_option maxHeartbeats 800000 in
/-- The body from its thirteen blocks to its two results. -/
theorem kernelRun (c : Dev nD) (arg0 : Memref sig .tc .vmem S8x256x512 .f32) (harg0 : arg0.IsWhole) (arg1 : Memref sig .tc .vmem S8x1 .i32) (harg1 : arg1.IsWhole) (arg2 : Memref sig .tc .vmem S2x8x512 .f32) (harg2 : arg2.IsWhole) (arg3 : Memref sig .tc .vmem S1024x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .i32) (harg12 : arg12.IsWhole) (arg13 : Memref sig .tc .vmem S8x256 .i32) (harg13 : arg13.IsWhole) (arg14 : Memref sig .tc .vmem S2x8x512 .f32) (harg14 : arg14.IsWhole) (X0 : Vec F S8x256x512 .f32) (X1 : Vec F S8x1 .i32) (X2 : Vec F S2x8x512 .f32) (X3 : Vec F S1024x512 .f32) (X4 : Vec F S512x2048 .f32) (X5 : Vec F S512x2048 .f32) (X6 : Vec F S1x2048 .f32) (X7 : Vec F S512x512 .f32) (X8 : Vec F S512x512 .f32) (X9 : Vec F S1x512 .f32) (X10 : Vec F S512x1024 .f32) (X11 : Vec F S1x1024 .f32) (X12 : Vec F S1x1024 .i32)
    (hp : ∀ k i, ((stAt X0 X1 X2 X3 X4 X5 X6 X7 X8 X9 X10 X11 X12 k).2.2.1 i).toNat < 1024) (W : Waits sig Unit) (K : PUnit → sProp 𝕄) :
    iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ d, owns (c : Thread nD τ) arg13 fullShare d) ∗ (∃ d, owns (c : Thread nD τ) arg14 fullShare d)
        ∗ (∃ d, owns (c : Thread nD τ) m15 fullShare d) ∗ (∃ d, owns (c : Thread nD τ) m16 fullShare d) ∗ (∃ d, owns (c : Thread nD τ) m17 fullShare d) ∗ (∃ d, owns (c : Thread nD τ) m18 fullShare d) ∗ (∃ d, owns (c : Thread nD τ) m19 fullShare d) ∗ (∃ d, owns (c : Thread nD τ) m20 fullShare d) ∗ (∃ d, owns (c : Thread nD τ) m21 fullShare d) ∗ semVal ((c : Thread nD τ), SemLoc.dma 15) 0 ∗ owes (c : Thread nD τ) 0 W
        ∗ (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare (stAt X0 X1 X2 X3 X4 X5 X6 X7 X8 X9 X10 X11 X12 256).2.2.2.2 ∗ owns (c : Thread nD τ) arg14 fullShare (cacheOut (stAt X0 X1 X2 X3 X4 X5 X6 X7 X8 X9 X10 X11 X12 256))
          ∗ (∃ d, owns (c : Thread nD τ) m15 fullShare d) ∗ (∃ d, owns (c : Thread nD τ) m16 fullShare d) ∗ (∃ d, owns (c : Thread nD τ) m17 fullShare d) ∗ (∃ d, owns (c : Thread nD τ) m18 fullShare d) ∗ (∃ d, owns (c : Thread nD τ) m19 fullShare d) ∗ (∃ d, owns (c : Thread nD τ) m20 fullShare d) ∗ (∃ d, owns (c : Thread nD τ) m21 fullShare d) ∗ semVal ((c : Thread nD τ), SemLoc.dma 15) 0 ∗ (∃ W', owes (c : Thread nD τ) 0 W')) -∗ K ⟨⟩))
      ⊢ wp frame (wpE (defs₀ (F := F)) Variants.none (c : Thread nD τ) none) Set.univ
          (cc0__decode_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7) K := by
  simp only [cc0__decode_body_eq_skeleton]; unfold cc0__decode_body_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d13, %f13, -, H13⟩, ⟨%d14, %f14, -, H14⟩,
    ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HS, HW, Hk⟩
  sl_exec
  have e1 : kernelRun.sl.r_1 c arg1 f1 = k0_pay23 X1 := by
    rw [← h1]; sl_unfold_words; rw [View.readAt_eq_ld, View.ld_unit_zero (S := S8x1) (by decide)]
  have e2 : kernelRun.sl.r_2 c arg6 f6 = k0_pay24 X6 := by
    rw [← h6]; sl_unfold_words; rw [View.readAt_eq_ld, View.ld_unit_zero (S := S1x2048) (by decide)]
  have e3 : kernelRun.sl.r_3 c arg9 f9 = k0_pay25 X9 := by
    rw [← h9]; sl_unfold_words; rw [View.readAt_eq_ld, View.ld_unit_zero (S := S1x512) (by decide)]
  have e4 : kernelRun.sl.r_4 c arg11 f11 = k0_pay26 X11 := by
    rw [← h11]; sl_unfold_words; rw [View.readAt_eq_ld, View.ld_unit_zero (S := S1x1024) (by decide)]
  have e5 : kernelRun.sl.r_5 c arg12 f12 = k0_pay27 X12 := by
    rw [← h12]; sl_unfold_words; rw [View.readAt_eq_ld, View.ld_unit_zero (S := S1x1024) (by decide)]
  have e6 : kernelRun.sl.r_13 c arg2 f2 = k0_pay28 (row0 X2) := by
    rw [← h2]; sl_unfold_words; rfl
  have e7 : kernelRun.sl.r_14 c arg2 f2 = k0_pay29 (row1 X2) := by
    rw [← h2]; sl_unfold_words; rfl
  have e8 : kernelRun.sl.v45 c arg2 arg5 f2 f5 = k0_pay32 (row0 X2) X5 := by
    rw [← h2, ← h5]; sl_unfold_words
    rw [View.readCov_unit_zero (S := S8x2048) _ (by decide), View.readAt_eq_ld, View.readAt_eq_ld, View.ld_unit_zero (S := S512x2048) (by decide)]; rfl
  have e9 : (kernelRun.sl.v24 : IVec S8x1024 32) = iota .tc S8x1024 32 [1] iota_S8x1024_d1_w32 := rfl
  have e10 : (kernelRun.sl.v25 : IVec S8x256 32) = iota .tc S8x256 32 [1] iota_S8x256_d1_w32 := rfl
  sl_rw [e1, e2, e3, e4, e5, e6, e7, e8, e9, e10]
  sl_for (fun k acc => iprop(⌜acc = stAt X0 X1 X2 X3 X4 X5 X6 X7 X8 X9 X10 X11 X12 k⌝
    ∗ Held c arg5 arg8 arg10 (k0_pay21 X0 X7) (k0_pay22 X3 X4) X5 X8 X10 acc.2.2.1)) $$ [H5 H8 H10 H15 H16 H17 H18 H19 H20 H21 HS HW]
  case region =>
    intro k acc
    iintro ⟨%e, H⟩
    subst e
    have key := (trip_run c arg0 harg0 arg1 harg1 arg2 harg2 arg3 harg3 arg4 harg4 arg5 harg5 arg6 harg6 arg7 harg7 arg8 harg8 arg9 harg9 arg10 harg10
      arg11 harg11 arg12 harg12 arg13 harg13 arg14 harg14 (k0_pay21 X0 X7) (k0_pay22 X3 X4) X5 X8 X10 (k0_pay23 X1) (k0_pay24 X6) (k0_pay25 X9)
      (k0_pay26 X11) (k0_pay27 X12) (iota .tc S8x1024 32 [1] iota_S8x1024_d1_w32) (iota .tc S8x256 32 [1] iota_S8x256_d1_w32) k _ (hp k)).trans
      (wp_mono (Q' := fun s' => iprop(⌜s' = stAt X0 X1 X2 X3 X4 X5 X6 X7 X8 X9 X10 X11 X12 (k.val + 1)⌝
        ∗ Held c arg5 arg8 arg10 (k0_pay21 X0 X7) (k0_pay22 X3 X4) X5 X8 X10 s'.2.2.1)) _ _ _ fun s' => by
          iintro ⟨%e, H⟩
          isplitr
          · ipureintro; rw [e]; exact (stAt_succ X0 X1 X2 X3 X4 X5 X6 X7 X8 X9 X10 X11 X12 k).symm
          iexact H)
    sl_unfold_run_names
    iapply key
    iexact H
  · isplitr
    · ipureintro; rfl
    unfold Held owns
    isplitl [H5]
    · iexists _; isplitr; swap; · iexact H5
      ipureintro; exact h5
    isplitl [H8]
    · iexists _; isplitr; swap; · iexact H8
      ipureintro; exact h8
    isplitl [H10]
    · iexists _; isplitr; swap; · iexact H10
      ipureintro; exact h10
    isplitl [H15]
    · iexists _; isplitr; swap; · iexact H15
      ipureintro; sl_unfold_run_names; exact read_pay21 m15.view _ arg0.view arg7.view h0 h7 _
    isplitl [H16]
    · iexists _; isplitr; swap; · iexact H16
      ipureintro; sl_unfold_run_names; exact read_pay22 m16.view _ arg3.view arg4.view h3 h4 _
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _; isplitr; swap; · iexact H21
      ipureintro; sl_unfold_run_names; exact zeros m21.view _ _ _ _ _ _ _ _ _
    isplitl [HS]; · iexact HS
    iexists _; iexact HW
  iintro %acc ⟨%e, H⟩
  subst e
  unfold Held owns
  icases H with ⟨⟨%g5, %i5, H5⟩, ⟨%g8, %i8, H8⟩, ⟨%g10, %i10, H10⟩, ⟨%g15, %i15, H15⟩, ⟨%g16, %i16, H16⟩, H17, H18, H19, H20,
    ⟨%g21, %i21, H21⟩, HS, HW⟩
  sl_exec
  sl_step
  iapply Hk
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact i5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact i8
  isplitl [H9]
  · iexists _; isplitr; swap; · iexact H9
    ipureintro; exact h9
  isplitl [H10]
  · iexists _; isplitr; swap; · iexact H10
    ipureintro; exact i10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; sl_unfold_run_names; exact read_store_whole (S := S8x256) arg13.view _ (by decide) _ _
  isplitl [H14]
  · iexists _; isplitr; swap; · iexact H14
    ipureintro; sl_unfold_run_names; exact read_cache arg14.view _ _ _ _
  isplitl [H15]
  · iexists _, _; isplitr; swap; · iexact H15
    ipureintro; rfl
  isplitl [H16]
  · iexists _, _; isplitr; swap; · iexact H16
    ipureintro; rfl
  isplitl [H17]; · iexact H17
  isplitl [H18]; · iexact H18
  isplitl [H19]; · iexact H19
  isplitl [H20]; · iexact H20
  isplitl [H21]
  · iexists _, _; isplitr; swap; · iexact H21
    ipureintro; rfl
  isplitl [HS]; · iexact HS
  iexact HW

end Cert.Decode

end
-- ==== Proof.Launch.lean ====
/-
  The kernel's launch: the body put in the one grid point of its pipeline, the arrays after the run.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import proofs.«01_k».proof.Proof.Body
public import Idealize.ShloMosaic.Lib.Pipeline.FrameBody
public import Idealize.ShloMosaic.Lib.ValueIdxCore
public import Idealize.ShloMosaic.Lib.Pipeline.Value
public import Idealize.ShloMosaic.Lib.WritesUnit
public import Idealize.ShloMosaic.Lib.Tactic
public import Idealize.ShloMosaic.Lib.Transfers

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]
variable (m : (ℓ : Loc nD τ sig) → Buf (Elt F) ℓ) (ρ : Dev nD → PrngReg)

local notation "𝕄" => MT nD τ sig Unit (Elt F) ℕ (Pipeline.UD sig nD τ) ℕ

/-- Every carried previous token names a row of the table of 1024. -/
def InRange (F : FTy → Type) [FloatOps F] [∀ e, Nonempty (Elt F e)] : Prop :=
  ∀ (X0 : Vec F S8x256x512 .f32) (X1 : Vec F S8x1 .i32) (X2 : Vec F S2x8x512 .f32) (X3 : Vec F S1024x512 .f32) (X4 : Vec F S512x2048 .f32) (X5 : Vec F S512x2048 .f32) (X6 : Vec F S1x2048 .f32) (X7 : Vec F S512x512 .f32) (X8 : Vec F S512x512 .f32) (X9 : Vec F S1x512 .f32) (X10 : Vec F S512x1024 .f32) (X11 : Vec F S1x1024 .f32) (X12 : Vec F S1x1024 .i32) (k : ℕ) i, ((stAt X0 X1 X2 X3 X4 X5 X6 X7 X8 X9 X10 X11 X12 k).2.2.1 i).toNat < 1024

/-- What the run leaves of the decode: the state after the last trip, from the blocks of the inputs. -/
def last (c : Dev nD) (t : Fin cfg0.N) : St F := stAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 256

abbrev osem0 : Fin 1 → SemLoc sig := fun j => ![SemLoc.dma 15] j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 15) 0 := by
  rw [Pipeline.ownSems0_eq_of_list c osem0 [0] (by decide) (by decide)]; rfl

def H0 : Finset (Ref sig .tc) := ∅
theorem H0_sub : H0 ⊆ Pipeline.restRefs sig spec0 := by decide

/-- The invariant opened: the scratch memory, the generator register, the transfer semaphore. -/
theorem PhiD0_eq (c : Dev nD) :
    (Pipeline.ΦD osem0 spec0 H0 (V m) c : sProp 𝕄)
      = iprop(((∃ d, owns (c : Thread nD τ) m15 fullShare d) ∗ (∃ d, owns (c : Thread nD τ) m16 fullShare d) ∗ (∃ d, owns (c : Thread nD τ) m17 fullShare d) ∗ (∃ d, owns (c : Thread nD τ) m18 fullShare d) ∗ (∃ d, owns (c : Thread nD τ) m19 fullShare d) ∗ (∃ d, owns (c : Thread nD τ) m20 fullShare d) ∗ (∃ d, owns (c : Thread nD τ) m21 fullShare d))
        ∗ (∃ r, prngReg c r) ∗ semVal ((c : Thread nD τ), SemLoc.dma 15) 0 ∗ bigSep H0 (fun b => ((c : Thread nD τ).loc b) ↦{fullShare} V m c b)) := by
  rw [Pipeline.ΦD_eq, scopedRest0_eq, ownSems00_eq]; simp only [m15, m16, m17, m18, m19, m20, m21, owns_whole]; try rfl

/-- The proof data of the pipeline: the inputs stay at their blocks, the results at what the decode leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (last m c t).2.2.2.2
    | ⟨14, _⟩ => cacheOut (last m c t)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem after0_13 (c : Dev nD) (t : Fin cfg0.N) : (dats m 0 c).after 13 t = (last m c t).2.2.2.2 := by dsimp only [dats]
theorem after0_14 (c : Dev nD) (t : Fin cfg0.N) : (dats m 0 c).after 14 t = cacheOut (last m c t) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t))

/-- The body at the point, from its blocks to its results. -/
theorem sound_body (hR : InRange F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl]
  iintro ⟨⟨⟨S15, S16, S17, S18, S19, S20, S21⟩, Hg, HS, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (kernelRun c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (hR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [HS]; · iexact HS
  isplitl [HO]; · iexact HO
  iintro ⟨H0, H1, H2, H3, H4, H5, H6, H7, H8, H9, H10, H11, H12, H13, H14, S15, S16, S17, S18, S19, S20, S21, HS, ⟨%W', HO⟩⟩
  isplitl [S15 S16 S17 S18 S19 S20 S21 Hg HS Hh]
  · isplitl [S15 S16 S17 S18 S19 S20 S21]
    · isplitl [S15]; · iexact S15
      isplitl [S16]; · iexact S16
      isplitl [S17]; · iexact S17
      isplitl [S18]; · iexact S18
      isplitl [S19]; · iexact S19
      isplitl [S20]; · iexact S20
      iexact S21
    isplitl [Hg]; · iexact Hg
    isplitl [HS]; · iexact HS
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (hR : InRange F) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

/-- The host lines before the launch. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: every array of the pipeline ends at its proof data, every other buffer as it was, the counters at zero. -/
theorem run_main (hR : InRange F) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hR c).loose) (hshare := fun c => (dats m 0 c).share_full fun _ => rfl)
    (howed := fun _ _ => rfl) (V := V m) (hmain := hmainD m Variants.none) (hA := A_eq m) (hin := fun _ => .rfl) (hout := fun _ => .rfl)

/-- The arguments' arrays at the end. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).2 main_arg9 (Pipeline.mem_restRefs_of main_arg9 (by decide) (by decide))).trans (V_main_arg9 m c),
    ((h c).1 10).trans (((dats m 0 c).arrAt_in 10 rfl _).trans ((A_eq m c 10).trans (V_main_arg10 m c))),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

theorem iblk0_0 (c : Dev nD) (t : Fin cfg0.N) : iblk m c 0 t = m ((c : Thread nD τ).loc main_arg0) := by
  obtain rfl : t = t0_0 := fin_N0 t
  have hz : (fun a => win0_0.index t0_0 a * main_arg0.ty.shape.size a) = fun _ => 0 := funext fun a => by fin_cases a <;> decide
  exact (Memref.read_access_unit_zero (Elt F) main_arg0 hz (fun a => by rw [congrFun hz a]; simp) (V m c main_arg0)).trans (V_main_arg0 m c)

theorem V_main_v0 (c : Dev nD) : V m c main_v0 = shapeCast S8x1 (m ((c : Thread nD τ).loc main_arg1)) shapeCasts_S8_S8x1 := by
  show StableHlo.after hostOps0 (fun b => m (c, b)) (Proc.devRef .tc main_v0) = _
  unfold hostOps0
  after_results
  rfl

theorem iblk0_1 (c : Dev nD) (t : Fin cfg0.N) : iblk m c 1 t = shapeCast S8x1 (m ((c : Thread nD τ).loc main_arg1)) shapeCasts_S8_S8x1 := by
  obtain rfl : t = t0_0 := fin_N0 t
  have hz : (fun a => win0_1.index t0_0 a * main_v0.ty.shape.size a) = fun _ => 0 := funext fun a => by fin_cases a <;> decide
  exact (Memref.read_access_unit_zero (Elt F) main_v0 hz (fun a => by rw [congrFun hz a]; simp) (V m c main_v0)).trans (V_main_v0 m c)

theorem iblk0_2 (c : Dev nD) (t : Fin cfg0.N) : iblk m c 2 t = m ((c : Thread nD τ).loc main_arg2) := by
  obtain rfl : t = t0_0 := fin_N0 t
  have hz : (fun a => win0_2.index t0_0 a * main_arg2.ty.shape.size a) = fun _ => 0 := funext fun a => by fin_cases a <;> decide
  exact (Memref.read_access_unit_zero (Elt F) main_arg2 hz (fun a => by rw [congrFun hz a]; simp) (V m c main_arg2)).trans (V_main_arg2 m c)

theorem iblk0_3 (c : Dev nD) (t : Fin cfg0.N) : iblk m c 3 t = m ((c : Thread nD τ).loc main_arg3) := by
  obtain rfl : t = t0_0 := fin_N0 t
  have hz : (fun a => win0_3.index t0_0 a * main_arg3.ty.shape.size a) = fun _ => 0 := funext fun a => by fin_cases a <;> decide
  exact (Memref.read_access_unit_zero (Elt F) main_arg3 hz (fun a => by rw [congrFun hz a]; simp) (V m c main_arg3)).trans (V_main_arg3 m c)

theorem iblk0_4 (c : Dev nD) (t : Fin cfg0.N) : iblk m c 4 t = m ((c : Thread nD τ).loc main_arg4) := by
  obtain rfl : t = t0_0 := fin_N0 t
  have hz : (fun a => win0_4.index t0_0 a * main_arg4.ty.shape.size a) = fun _ => 0 := funext fun a => by fin_cases a <;> decide
  exact (Memref.read_access_unit_zero (Elt F) main_arg4 hz (fun a => by rw [congrFun hz a]; simp) (V m c main_arg4)).trans (V_main_arg4 m c)

theorem iblk0_5 (c : Dev nD) (t : Fin cfg0.N) : iblk m c 5 t = m ((c : Thread nD τ).loc main_arg5) := by
  obtain rfl : t = t0_0 := fin_N0 t
  have hz : (fun a => win0_5.index t0_0 a * main_arg5.ty.shape.size a) = fun _ => 0 := funext fun a => by fin_cases a <;> decide
  exact (Memref.read_access_unit_zero (Elt F) main_arg5 hz (fun a => by rw [congrFun hz a]; simp) (V m c main_arg5)).trans (V_main_arg5 m c)

theorem V_main_v1 (c : Dev nD) : V m c main_v1 = shapeCast S1x2048 (m ((c : Thread nD τ).loc main_arg6)) shapeCasts_S2048_S1x2048 := by
  show StableHlo.after hostOps0 (fun b => m (c, b)) (Proc.devRef .tc main_v1) = _
  unfold hostOps0
  after_results
  rfl

theorem iblk0_6 (c : Dev nD) (t : Fin cfg0.N) : iblk m c 6 t = shapeCast S1x2048 (m ((c : Thread nD τ).loc main_arg6)) shapeCasts_S2048_S1x2048 := by
  obtain rfl : t = t0_0 := fin_N0 t
  have hz : (fun a => win0_6.index t0_0 a * main_v1.ty.shape.size a) = fun _ => 0 := funext fun a => by fin_cases a <;> decide
  exact (Memref.read_access_unit_zero (Elt F) main_v1 hz (fun a => by rw [congrFun hz a]; simp) (V m c main_v1)).trans (V_main_v1 m c)

theorem iblk0_7 (c : Dev nD) (t : Fin cfg0.N) : iblk m c 7 t = m ((c : Thread nD τ).loc main_arg7) := by
  obtain rfl : t = t0_0 := fin_N0 t
  have hz : (fun a => win0_7.index t0_0 a * main_arg7.ty.shape.size a) = fun _ => 0 := funext fun a => by fin_cases a <;> decide
  exact (Memref.read_access_unit_zero (Elt F) main_arg7 hz (fun a => by rw [congrFun hz a]; simp) (V m c main_arg7)).trans (V_main_arg7 m c)

theorem iblk0_8 (c : Dev nD) (t : Fin cfg0.N) : iblk m c 8 t = m ((c : Thread nD τ).loc main_arg8) := by
  obtain rfl : t = t0_0 := fin_N0 t
  have hz : (fun a => win0_8.index t0_0 a * main_arg8.ty.shape.size a) = fun _ => 0 := funext fun a => by fin_cases a <;> decide
  exact (Memref.read_access_unit_zero (Elt F) main_arg8 hz (fun a => by rw [congrFun hz a]; simp) (V m c main_arg8)).trans (V_main_arg8 m c)

theorem V_main_v2 (c : Dev nD) : V m c main_v2 = shapeCast S1x512 (m ((c : Thread nD τ).loc main_arg9)) shapeCasts_S512_S1x512 := by
  show StableHlo.after hostOps0 (fun b => m (c, b)) (Proc.devRef .tc main_v2) = _
  unfold hostOps0
  after_results
  rfl

theorem iblk0_9 (c : Dev nD) (t : Fin cfg0.N) : iblk m c 9 t = shapeCast S1x512 (m ((c : Thread nD τ).loc main_arg9)) shapeCasts_S512_S1x512 := by
  obtain rfl : t = t0_0 := fin_N0 t
  have hz : (fun a => win0_9.index t0_0 a * main_v2.ty.shape.size a) = fun _ => 0 := funext fun a => by fin_cases a <;> decide
  exact (Memref.read_access_unit_zero (Elt F) main_v2 hz (fun a => by rw [congrFun hz a]; simp) (V m c main_v2)).trans (V_main_v2 m c)

theorem iblk0_10 (c : Dev nD) (t : Fin cfg0.N) : iblk m c 10 t = m ((c : Thread nD τ).loc main_arg10) := by
  obtain rfl : t = t0_0 := fin_N0 t
  have hz : (fun a => win0_10.index t0_0 a * main_arg10.ty.shape.size a) = fun _ => 0 := funext fun a => by fin_cases a <;> decide
  exact (Memref.read_access_unit_zero (Elt F) main_arg10 hz (fun a => by rw [congrFun hz a]; simp) (V m c main_arg10)).trans (V_main_arg10 m c)

theorem V_main_v3 (c : Dev nD) : V m c main_v3 = shapeCast S1x1024 (m ((c : Thread nD τ).loc main_arg11)) shapeCasts_S1024_S1x1024 := by
  show StableHlo.after hostOps0 (fun b => m (c, b)) (Proc.devRef .tc main_v3) = _
  unfold hostOps0
  after_results
  rfl

theorem iblk0_11 (c : Dev nD) (t : Fin cfg0.N) : iblk m c 11 t = shapeCast S1x1024 (m ((c : Thread nD τ).loc main_arg11)) shapeCasts_S1024_S1x1024 := by
  obtain rfl : t = t0_0 := fin_N0 t
  have hz : (fun a => win0_11.index t0_0 a * main_v3.ty.shape.size a) = fun _ => 0 := funext fun a => by fin_cases a <;> decide
  exact (Memref.read_access_unit_zero (Elt F) main_v3 hz (fun a => by rw [congrFun hz a]; simp) (V m c main_v3)).trans (V_main_v3 m c)

theorem V_main_v4 (c : Dev nD) : V m c main_v4 = shapeCast S1x1024 (m ((c : Thread nD τ).loc main_arg12)) shapeCasts_S1024_S1x1024 := by
  show StableHlo.after hostOps0 (fun b => m (c, b)) (Proc.devRef .tc main_v4) = _
  unfold hostOps0
  after_results
  rfl

theorem iblk0_12 (c : Dev nD) (t : Fin cfg0.N) : iblk m c 12 t = shapeCast S1x1024 (m ((c : Thread nD τ).loc main_arg12)) shapeCasts_S1024_S1x1024 := by
  obtain rfl : t = t0_0 := fin_N0 t
  have hz : (fun a => win0_12.index t0_0 a * main_v4.ty.shape.size a) = fun _ => 0 := funext fun a => by fin_cases a <;> decide
  exact (Memref.read_access_unit_zero (Elt F) main_v4 hz (fun a => by rw [congrFun hz a]; simp) (V m c main_v4)).trans (V_main_v4 m c)

/-- The result array 0 at the end: the decoded labels. -/
theorem final_13 (c : Dev nD) : (dats m 0 c).arrAt 13 cfg0.N = (last m c t0_0).2.2.2.2 :=
  (dats m 0 c).arrAt_eq_of_cover 13 ((last m c t0_0).2.2.2.2 : Buf (Elt F) ((c : Thread nD τ).loc main_v5_0)) (fun t hf => by
    obtain rfl : t = t0_0 := fin_N0 t
    show (cfg0.win 13).cut (grid0.coords t0_0) ((dats m 0 c).after 13 t0_0) = _
    rw [after0_13]
    have hz : (fun a => win0_13.index t0_0 a * main_v5_0.ty.shape.size a) = fun _ => 0 := funext fun a => by fin_cases a <;> decide
    exact (Memref.read_access_unit_zero (Elt F) main_v5_0 hz (fun a => by rw [congrFun hz a]; simp) _).symm) fun i =>
    ⟨t0_0, flush0_13 t0_0, by
      show i ∈ ((View.whole main_v5_0).slice (win0_13.rect t0_0)).set
      rw [View.set_slice_whole, Rect.mem_set_unit]
      intro a
      have h0 : (i 0 : Nat) < 8 := (i 0).isLt
      have h1 : (i 1 : Nat) < 256 := (i 1).isLt
      match a with
      | ⟨0, _⟩ => show win0_13.index t0_0 0 * win0_13.size 0 ≤ (i 0 : Nat) ∧ (i 0 : Nat) < win0_13.index t0_0 0 * win0_13.size 0 + win0_13.xsize (grid0.coords t0_0) 0
                  rw [show win0_13.index t0_0 0 * win0_13.size 0 = 0 from by decide +kernel, show win0_13.xsize (grid0.coords t0_0) 0 = 8 from by decide +kernel]; omega
      | ⟨1, _⟩ => show win0_13.index t0_0 1 * win0_13.size 1 ≤ (i 1 : Nat) ∧ (i 1 : Nat) < win0_13.index t0_0 1 * win0_13.size 1 + win0_13.xsize (grid0.coords t0_0) 1
                  rw [show win0_13.index t0_0 1 * win0_13.size 1 = 0 from by decide +kernel, show win0_13.xsize (grid0.coords t0_0) 1 = 256 from by decide +kernel]; omega⟩

/-- The result array 1 at the end: the two cache rows. -/
theorem final_14 (c : Dev nD) : (dats m 0 c).arrAt 14 cfg0.N = cacheOut (last m c t0_0) :=
  (dats m 0 c).arrAt_eq_of_cover 14 (cacheOut (last m c t0_0) : Buf (Elt F) ((c : Thread nD τ).loc main_v5_1)) (fun t hf => by
    obtain rfl : t = t0_0 := fin_N0 t
    show (cfg0.win 14).cut (grid0.coords t0_0) ((dats m 0 c).after 14 t0_0) = _
    rw [after0_14]
    have hz : (fun a => win0_14.index t0_0 a * main_v5_1.ty.shape.size a) = fun _ => 0 := funext fun a => by fin_cases a <;> decide
    exact (Memref.read_access_unit_zero (Elt F) main_v5_1 hz (fun a => by rw [congrFun hz a]; simp) _).symm) fun i =>
    ⟨t0_0, flush0_14 t0_0, by
      show i ∈ ((View.whole main_v5_1).slice (win0_14.rect t0_0)).set
      rw [View.set_slice_whole, Rect.mem_set_unit]
      intro a
      have h0 : (i 0 : Nat) < 2 := (i 0).isLt
      have h1 : (i 1 : Nat) < 8 := (i 1).isLt
      have h2 : (i 2 : Nat) < 512 := (i 2).isLt
      match a with
      | ⟨0, _⟩ => show win0_14.index t0_0 0 * win0_14.size 0 ≤ (i 0 : Nat) ∧ (i 0 : Nat) < win0_14.index t0_0 0 * win0_14.size 0 + win0_14.xsize (grid0.coords t0_0) 0
                  rw [show win0_14.index t0_0 0 * win0_14.size 0 = 0 from by decide +kernel, show win0_14.xsize (grid0.coords t0_0) 0 = 2 from by decide +kernel]; omega
      | ⟨1, _⟩ => show win0_14.index t0_0 1 * win0_14.size 1 ≤ (i 1 : Nat) ∧ (i 1 : Nat) < win0_14.index t0_0 1 * win0_14.size 1 + win0_14.xsize (grid0.coords t0_0) 1
                  rw [show win0_14.index t0_0 1 * win0_14.size 1 = 0 from by decide +kernel, show win0_14.xsize (grid0.coords t0_0) 1 = 8 from by decide +kernel]; omega
      | ⟨2, _⟩ => show win0_14.index t0_0 2 * win0_14.size 2 ≤ (i 2 : Nat) ∧ (i 2 : Nat) < win0_14.index t0_0 2 * win0_14.size 2 + win0_14.xsize (grid0.coords t0_0) 2
                  rw [show win0_14.index t0_0 2 * win0_14.size 2 = 0 from by decide +kernel, show win0_14.xsize (grid0.coords t0_0) 2 = 512 from by decide +kernel]; omega⟩

/-- The run of the kernel: its results, its arguments, its counters. -/
theorem run (hR : InRange F) : θ_run defs (onTc (τ := τ) (main (F := F))) ⟨m, fun _ => 0, ρ⟩ (fun r => (∀ c : Dev nD,
      (r.2.mem ((c.tc : Thread nD τ).loc main_v5_0) = (last m c t0_0).2.2.2.2
        ∧ r.2.mem ((c.tc : Thread nD τ).loc main_v5_1) = cacheOut (last m c t0_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => ⟨⟨((h.1 c).1 13).trans (final_13 m c), ((h.1 c).1 14).trans (final_14 m c)⟩, args_kept m h.1 c⟩, h.2⟩)
    (run_main m ρ hR)

end Cert.Decode

end
-- ==== Proof.Token.lean ====
/-
  The token a trip of the kernel decodes, at exact arithmetic: the first position of the greatest logit of the row. So every
  emitted token is a row number of the table of input gates.
-/
module

public import proofs.«01_k».proof.Proof.Pick
public import proofs.«01_k».proof.Proof.Launch
public import Idealize.ShloMosaic.Lib.ValueLayout
public import Idealize.ShloMosaic.Lib.ValueLayoutCasts

@[expose] public section

noncomputable section

namespace Cert.Decode

open Cert.KernelIdeal Cert.KernelIdeal.Gen
open Idealize.ShloMosaic Idealize.ShloMosaic.TcCoe
open Idealize.ShloMosaic.ValueIdx
open Cert.Pick

/-- The logits of row `b` with the bias. -/
def logitRow (bo : FVec Ideal S1x1024 .f32) (L : Vec Ideal S8x1024 .f32) (b : Fin 8) : Fin 1024 → EReal :=
  fun k => (L (ix2 b k) : EReal) + bo (ix2 0 k)

/-- The positions along a row. -/
abbrev cols : IVec S8x1024 32 := iota .tc S8x1024 32 [1] iota_S8x1024_d1_w32
/-- The frame numbers along a row. -/
abbrev frames : IVec S8x256 32 := iota .tc S8x256 32 [1] iota_S8x256_d1_w32

theorem lift_ix2 (b : Fin 8) (k : Fin 1024) : reduces_S8x1024_S8.lift (ix1 b) k = ix2 b k := by
  funext c
  match c with
  | ⟨0, _⟩ => rfl
  | ⟨1, _⟩ => rfl

theorem broadcast_col {α : Type} {n : ℕ} (v : (⟨2, ![8, 1]⟩ : Shape).Idx → α) (h : (⟨2, ![8, 1]⟩ : Shape).Broadcasts ⟨2, ![8, n]⟩)
    (p : Fin 8) (c : Fin n) : broadcastTo ⟨2, ![8, n]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

theorem cols_apply (b : Fin 8) (k : Fin 1024) : cols (ix2 b k) = BitVec.ofNat 32 k.val := by
  simp [cols, iota]

theorem frames_apply (b : Fin 8) (t : Fin 256) : frames (ix2 b t) = BitVec.ofNat 32 t.val := by
  simp [frames, iota]

/-- A trip's mask holds where the logit is the row's maximum. -/
theorem peak_apply (bo : FVec Ideal S1x1024 .f32) (L : Vec Ideal S8x1024 .f32) (b : Fin 8) (k : Fin 1024) :
    k0_pay10 bo L (ix2 b k) = BitVec.ofBool (decide (logitRow bo L b k = logitRow bo L b (best (logitRow bo L b)))) := by
  have hrow : ∀ k, addf L (broadcastTo S8x1024 bo broadcasts_S1x1024_S8x1024) (ix2 b k) = logitRow bo L b k := fun k => by
    rw [addf_apply, broadcastTo_1b_ab_apply]; rfl
  have e : (addf L (broadcastTo S8x1024 bo broadcasts_S1x1024_S8x1024)) ∘ reduces_S8x1024_S8.lift (ix1 b) = logitRow bo L b := by
    funext k
    show addf L (broadcastTo S8x1024 bo broadcasts_S1x1024_S8x1024) (reduces_S8x1024_S8.lift (ix1 b) k) = _
    exact (congrArg (addf L (broadcastTo S8x1024 bo broadcasts_S1x1024_S8x1024)) (lift_ix2 b k)).trans (hrow k)
  have hmax : multiReduction .maximumf [1] S8 (addf L (broadcastTo S8x1024 bo broadcasts_S1x1024_S8x1024)) 0xFF800000#32 reduces_S8x1024_S8
      (.inl rfl) rfl (ix1 b) = logitRow bo L b (best (logitRow bo L b)) := by
    refine (Ideal.multiReduction_maximumf_single _ _ reduces_S8x1024_S8 (.inl rfl) rfl (ix1 b)).trans ?_
    rw [e]
    have hbot : (FloatOps.ofBits (F := Ideal) .f32 0xFF800000#32 : EReal) = ⊥ := by
      show Ideal.ofBits .f32 0xFF800000#32 = ⊥
      simp [Ideal.ofBits, Ideal.ieee]
    refine Eq.trans (congrArg (fun z : EReal => (Finset.univ : Finset (Fin 1024)).fold max z (logitRow bo L b)) hbot) ?_
    exact fold_max (logitRow bo L b)
  unfold k0_pay10
  dsimp only
  rw [cmpf_apply, hrow, broadcast_col, shapeCast_a_a1_apply]
  refine (congrArg (FloatOps.cmpf (F := Ideal) (φ := .f32) .oeq (logitRow bo L b k)) hmax).trans ?_
  rfl

/-- The token of a trip is the first position of the greatest logit. -/
theorem pay12_apply (bo : FVec Ideal S1x1024 .f32) (L : Vec Ideal S8x1024 .f32) (b : Fin 8) (z : Fin 1) :
    k0_pay12 cols (k0_pay10 bo L) k0_pay11 (ix2 b z) = BitVec.ofNat 32 (best (logitRow bo L b)).val := by
  unfold k0_pay12
  dsimp only
  rw [shapeCast_a_a1_apply]
  refine (multiReductionI_eq_fold .minsi _ _ reduces_S8x1024_S8 rfl (ix1 b)).trans ?_
  refine (reduces_S8x1024_S8.fold_filter_drop_single IntOp.minsi _ _ (ix1 b)).trans ?_
  refine min_pos (logitRow bo L b) _ fun k => ?_
  show select (k0_pay10 bo L) cols k0_pay11 (reduces_S8x1024_S8.lift (ix1 b) k) = _
  rw [lift_ix2, select_apply, peak_apply, cols_apply]
  by_cases h : logitRow bo L b k = logitRow bo L b (best (logitRow bo L b))
  · rw [if_pos h, decide_eq_true h]; rfl
  · rw [if_neg h, decide_eq_false h]; rfl

/-- A trip keeps the carried token where it decodes the blank. -/
theorem pay17_apply (bo : FVec Ideal S1x1024 .f32) (L : Vec Ideal S8x1024 .f32) (p : IVec S8x1 32) (b : Fin 8) (z : Fin 1) :
    k0_pay17 cols p (k0_pay10 bo L) k0_pay11 (ix2 b z)
      = if (best (logitRow bo L b)).val = 0 then p (ix2 b z) else BitVec.ofNat 32 (best (logitRow bo L b)).val := by
  unfold k0_pay17 k0_pay14
  dsimp only
  rw [select_apply, show ∀ x y : IVec S8x1 32, cmpi .eq x y (ix2 b z) = IntOp.cmpi .eq (x (ix2 b z)) (y (ix2 b z)) from fun _ _ => rfl, pay12_apply]
  have hb := (best (logitRow bo L b)).isLt
  by_cases h : (best (logitRow bo L b)).val = 0
  · rw [if_pos h, h]; rfl
  · rw [if_neg h]
    have : BitVec.ofNat 32 (best (logitRow bo L b)).val ≠ 0#32 := fun e => h (by
      have := congrArg BitVec.toNat e
      simp only [BitVec.toNat_ofNat] at this
      omega)
    simp [Scalar.select, IntOp.cmpi, broadcast, beq_eq_false_iff_ne.mpr this]

/-- Every carried token is a row number. -/
theorem inRange : InRange Ideal := by
  intro X0 X1 X2 X3 X4 X5 X6 X7 X8 X9 X10 X11 X12 k
  induction k with
  | zero => intro i; exact (by decide : (0#32 : BitVec 32).toNat < 1024)
  | succ k ih =>
    intro i
    by_cases hk : k < k0_t1_loop.trips
    · rw [stAt_succ X0 X1 X2 X3 X4 X5 X6 X7 X8 X9 X10 X11 X12 ⟨k, hk⟩]
      obtain ⟨b, z, rfl⟩ : ∃ b z, i = ix2 b z := ⟨i 0, i 1, eq_ix2 i⟩
      unfold step peak
      dsimp only
      rw [pay17_apply]
      split
      · exact ih _
      · rw [BitVec.toNat_ofNat]
        exact lt_of_le_of_lt (Nat.mod_le _ _) (best _).isLt
    · rw [show stAt X0 X1 X2 X3 X4 X5 X6 X7 X8 X9 X10 X11 X12 (k + 1) = stAt X0 X1 X2 X3 X4 X5 X6 X7 X8 X9 X10 X11 X12 k from dif_neg hk]
      exact ih i

end Cert.Decode

end
-- ==== Proof.RefKeep.lean ====
/-
  What the reference leaves alone: the buffers no operation of a stretch writes keep their contents, so the reference's
  arguments end unchanged and the operands carried through its loop are those of the loop's entry.
-/
module

public import proofs.«01_k».proof.Proof.Gen.ReferenceIdeal.Run
public import proofs.«01_k».proof.Defs
public import Idealize.ShloMosaic.Lib.Quiescent

@[expose] public section

set_option maxRecDepth 2048

noncomputable section

namespace Cert.Reference

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The buffers `hostOps0_1` writes. -/
abbrev hostOps0_1_W : List (Ref sig .tc) := [main_v9, main_v10, main_v11, main_v12, main_v13, main_v14, main_v15, main_c_2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The buffers `hostOps0_2` writes. -/
abbrev hostOps0_2_W : List (Ref sig .tc) := [main_call7_v0, main_call7_v1, main_v16]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The buffers `hostOps0_3` writes. -/
abbrev hostOps0_3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_c_4, main_call8_v14, main_v17]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The buffers `hostOps0_4` writes. -/
abbrev hostOps0_4_W : List (Ref sig .tc) := [main_v18, main_v19, main_v20]
theorem hostOps0_4_writes : (hostOps0_4 : List (HloOp τ sig (Elt F))).Forall fun op => op.writes ⊆ (hostOps0_4_W.map (Proc.devRef (τ := τ) .tc)).toFinset :=
  StableHlo.forall_writes_sub_of_map rfl

/-- One trip of the reference's loop: the test, then the body's stretches. -/
abbrev trip (V : Valuation τ sig (Elt F)) : Valuation τ sig (Elt F) := afterL bodyI (after condOps V)

/-- The buffers a trip writes. -/
abbrev tripW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W
/-- The buffers the stretches after the loop write. -/
abbrev postW : List (Ref sig .tc) := hostOps0_1_W ++ hostOps0_2_W ++ hostOps0_3_W ++ hostOps0_4_W

/-- A buffer no operation of a trip writes is kept by it. -/
theorem trip_keep (V : Valuation τ sig (Elt F)) (r : Ref sig .tc) (h : r ∉ tripW) : trip V (Proc.devRef .tc r) = V (Proc.devRef .tc r) := by
  simp only [tripW, List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  simp only [trip, afterL_cons, afterL_nil]
  rw [after_of_writes_sub while0Ops0_10 _ while0Ops0_10_writes h11, after_of_writes_sub while0Ops0_9 _ while0Ops0_9_writes h10, after_of_writes_sub while0Ops0_8 _ while0Ops0_8_writes h9, after_of_writes_sub while0Ops0_7 _ while0Ops0_7_writes h8, after_of_writes_sub while0Ops0_6 _ while0Ops0_6_writes h7, after_of_writes_sub while0Ops0_5 _ while0Ops0_5_writes h6, after_of_writes_sub while0Ops0_4 _ while0Ops0_4_writes h5, after_of_writes_sub while0Ops0_3 _ while0Ops0_3_writes h4, after_of_writes_sub while0Ops0_2 _ while0Ops0_2_writes h3, after_of_writes_sub while0Ops0_1 _ while0Ops0_1_writes h2, after_of_writes_sub while0Ops0 _ while0Ops0_writes h1, after_of_writes_sub condOps _ condOps_writes h0]

/-- A buffer no operation after the loop writes is kept by them. -/
theorem post_keep (V : Valuation τ sig (Elt F)) (r : Ref sig .tc) (h : r ∉ postW) : afterL postI V (Proc.devRef .tc r) = V (Proc.devRef .tc r) := by
  simp only [postW, List.mem_append, not_or] at h
  obtain ⟨⟨⟨h1, h2⟩, h3⟩, h4⟩ := h
  simp only [afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

variable (m : (ℓ : Loc nD τ sig) → Buf (Elt F) ℓ)

/-- A buffer no operation of a trip writes holds, before every trip, what it held at the loop's entry. -/
theorem atK_keep (c : Dev nD) (r : Ref sig .tc) (h : r ∉ tripW) : ∀ k, atK m k c (Proc.devRef .tc r) = entryContents preI m c (Proc.devRef .tc r)
  | 0 => rfl
  | k + 1 => (trip_keep (atK m k c) r h).trans (atK_keep c r h k)

/-- The final contents: what the last stretches make of the state at the loop's exit. -/
theorem final_eq (c : Dev nD) : finalContents condOps preI bodyI postI 256 m c = afterL postI (after condOps (atK m 256 c)) := rfl

theorem cond_keep (V : Valuation τ sig (Elt F)) (r : Ref sig .tc) (h : r ∉ condOps_W) : after condOps V (Proc.devRef .tc r) = V (Proc.devRef .tc r) :=
  after_of_writes_sub condOps V condOps_writes h

/-- A buffer the program never writes ends as it started. -/
theorem final_keep (c : Dev nD) (r : Ref sig .tc) (h0 : r ∉ hostOps0_W) (h1 : r ∉ tripW) (h2 : r ∉ postW) (h3 : r ∉ condOps_W) :
    finalContents condOps preI bodyI postI 256 m c (Proc.devRef .tc r) = m (c.tc.loc r) := by
  rw [final_eq, post_keep _ r h2, cond_keep _ r h3, atK_keep m c r h1]
  simp only [entryContents, afterL_cons, afterL_nil]
  exact after_of_writes_sub hostOps0 _ hostOps0_writes h0

theorem arg0 (c : Dev nD) : finalContents condOps preI bodyI postI 256 m c (Proc.devRef .tc main_arg0) = m (c.tc.loc main_arg0) :=
  final_keep m c main_arg0 (by decide +kernel) (by decide +kernel) (by decide +kernel) (by decide +kernel)
theorem arg1 (c : Dev nD) : finalContents condOps preI bodyI postI 256 m c (Proc.devRef .tc main_arg1) = m (c.tc.loc main_arg1) :=
  final_keep m c main_arg1 (by decide +kernel) (by decide +kernel) (by decide +kernel) (by decide +kernel)
theorem arg2 (c : Dev nD) : finalContents condOps preI bodyI postI 256 m c (Proc.devRef .tc main_arg2) = m (c.tc.loc main_arg2) :=
  final_keep m c main_arg2 (by decide +kernel) (by decide +kernel) (by decide +kernel) (by decide +kernel)
theorem arg3 (c : Dev nD) : finalContents condOps preI bodyI postI 256 m c (Proc.devRef .tc main_arg3) = m (c.tc.loc main_arg3) :=
  final_keep m c main_arg3 (by decide +kernel) (by decide +kernel) (by decide +kernel) (by decide +kernel)
theorem arg4 (c : Dev nD) : finalContents condOps preI bodyI postI 256 m c (Proc.devRef .tc main_arg4) = m (c.tc.loc main_arg4) :=
  final_keep m c main_arg4 (by decide +kernel) (by decide +kernel) (by decide +kernel) (by decide +kernel)
theorem arg5 (c : Dev nD) : finalContents condOps preI bodyI postI 256 m c (Proc.devRef .tc main_arg5) = m (c.tc.loc main_arg5) :=
  final_keep m c main_arg5 (by decide +kernel) (by decide +kernel) (by decide +kernel) (by decide +kernel)
theorem arg6 (c : Dev nD) : finalContents condOps preI bodyI postI 256 m c (Proc.devRef .tc main_arg6) = m (c.tc.loc main_arg6) :=
  final_keep m c main_arg6 (by decide +kernel) (by decide +kernel) (by decide +kernel) (by decide +kernel)
theorem arg7 (c : Dev nD) : finalContents condOps preI bodyI postI 256 m c (Proc.devRef .tc main_arg7) = m (c.tc.loc main_arg7) :=
  final_keep m c main_arg7 (by decide +kernel) (by decide +kernel) (by decide +kernel) (by decide +kernel)
theorem arg8 (c : Dev nD) : finalContents condOps preI bodyI postI 256 m c (Proc.devRef .tc main_arg8) = m (c.tc.loc main_arg8) :=
  final_keep m c main_arg8 (by decide +kernel) (by decide +kernel) (by decide +kernel) (by decide +kernel)
theorem arg9 (c : Dev nD) : finalContents condOps preI bodyI postI 256 m c (Proc.devRef .tc main_arg9) = m (c.tc.loc main_arg9) :=
  final_keep m c main_arg9 (by decide +kernel) (by decide +kernel) (by decide +kernel) (by decide +kernel)
theorem arg10 (c : Dev nD) : finalContents condOps preI bodyI postI 256 m c (Proc.devRef .tc main_arg10) = m (c.tc.loc main_arg10) :=
  final_keep m c main_arg10 (by decide +kernel) (by decide +kernel) (by decide +kernel) (by decide +kernel)
theorem arg11 (c : Dev nD) : finalContents condOps preI bodyI postI 256 m c (Proc.devRef .tc main_arg11) = m (c.tc.loc main_arg11) :=
  final_keep m c main_arg11 (by decide +kernel) (by decide +kernel) (by decide +kernel) (by decide +kernel)
theorem arg12 (c : Dev nD) : finalContents condOps preI bodyI postI 256 m c (Proc.devRef .tc main_arg12) = m (c.tc.loc main_arg12) :=
  final_keep m c main_arg12 (by decide +kernel) (by decide +kernel) (by decide +kernel) (by decide +kernel)

/-- The reference runs, leaves its arguments unchanged and every counter at zero. -/
theorem frame : Cert.quiescent_ReferenceIdeal (hReferenceIdeal := Cert.ReferenceIdeal.Gen.facts) := fun m ρ _ =>
  (θ_run (defs (F := Ideal)) _ _).mono (fun r h => ⟨fun c => ⟨(h c main_arg0 rfl).trans (arg0 m c), (h c main_arg1 rfl).trans (arg1 m c), (h c main_arg2 rfl).trans (arg2 m c), (h c main_arg3 rfl).trans (arg3 m c), (h c main_arg4 rfl).trans (arg4 m c), (h c main_arg5 rfl).trans (arg5 m c), (h c main_arg6 rfl).trans (arg6 m c), (h c main_arg7 rfl).trans (arg7 m c), (h c main_arg8 rfl).trans (arg8 m c), (h c main_arg9 rfl).trans (arg9 m c), (h c main_arg10 rfl).trans (arg10 m c), (h c main_arg11 rfl).trans (arg11 m c), (h c main_arg12 rfl).trans (arg12 m c)⟩,
    Idealize.ShloMosaic.sem_eq_zero_of_no_sems (by decide) r.2⟩) (run_fold (F := Ideal) m ρ)

end Cert.Reference

end
-- ==== Proof.RefStep.lean ====
/-
  One trip of the reference's loop: what it leaves in the carried buffers, as functions of what they held.
-/
module

public import proofs.«01_k».proof.Proof.RefKeep
public import Idealize.ShloMosaic.Lib.StableHlo.RunClose

@[expose] public section

set_option maxRecDepth 65536

noncomputable section

namespace Cert.Reference

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- Frame `i` of the projected encoder output, the frame number clamped into range. -/
def encRow (E : FVec F S256x8x512 .f32) (i : IVec S_ 32) : FVec F S8x512 .f32 :=
  shapeCast S8x512 (Host.dynamicSlice S1x8x512 E ![(i (Shape.Idx.first h_S_)).toInt, 0, 0] sliceFits_S256x8x512_S1x8x512) shapeCasts_S1x8x512_S8x512

/-- A token as a row number: a negative one counts from the end. -/
def wrap (p : IVec S8 32) : IVec S8x1 32 :=
  broadcastInDim S8x1 ![0] bcast_S8_S8x1_0 (select (cmpi .slt p (broadcastInDim S8 ![] bcast_S_S8 (constantI S_ 32 0#32)))
    (addi p (broadcastInDim S8 ![] bcast_S_S8 (constantI S_ 32 1024#32))) p)

/-- Whether a row number is in range. -/
def inTable (q : IVec S8x1 32) : IVec S8 1 :=
  Host.reduce IntOp.andi (andi (cmpi .sge q (broadcastInDim S8x1 ![] bcast_S_S8x1 (constantI S_ 32 0#32)))
    (cmpi .sle q (broadcastInDim S8x1 ![0, 1] bcast_S1x1_S8x1_0_1 (broadcastInDim S1x1 ![1] bcast_S1_S1x1_1 (constantI S1 32 1023#32)))))
    (constantI S_ 1 1#1) reducesTo_S8x1_S8_d1 h_S_

/-- The rows of a table at the carried tokens. -/
def takeRows (T : FVec F S1024x512 .f32) (p : IVec S8 32) : FVec F S8x512 .f32 :=
  select (broadcastInDim S8x512 ![0] bcast_S8_S8x512_0 (inTable (wrap p)))
    (Host.gather gather_S1024x512_S8x1_S8x512_1_0_n_n_0_1_1512 T (wrap p))
    (broadcastInDim S8x512 ![] bcast_S_S8x512 (constant S_ .f32 0x7FC00000#32))

/-- A row laid along each of the eight rows. -/
def rows2048 (b : FVec F S2048 .f32) : FVec F S8x2048 .f32 :=
  broadcastInDim S8x2048 ![0, 1] bcast_S1x2048_S8x2048_0_1 (broadcastInDim S1x2048 ![1] bcast_S2048_S1x2048_1 b)
def rows512 (b : FVec F S512 .f32) : FVec F S8x512 .f32 :=
  broadcastInDim S8x512 ![0, 1] bcast_S1x512_S8x512_0_1 (broadcastInDim S1x512 ![1] bcast_S512_S1x512_1 b)
def rows1024 (b : FVec F S1024 .f32) : FVec F S8x1024 .f32 :=
  broadcastInDim S8x1024 ![0, 1] bcast_S1x1024_S8x1024_0_1 (broadcastInDim S1x1024 ![1] bcast_S1024_S1x1024_1 b)

/-- The gate sums with the bias. -/
def gateSums (e : FVec F S8x512 .f32) (Wi : FVec F S512x2048 .f32) (h : FVec F S8x512 .f32) (Wh : FVec F S512x2048 .f32) (bl : FVec F S2048 .f32) : FVec F S8x2048 .f32 :=
  addf (addf (Host.dotGeneral dot_S8x512_S512x2048_S8x2048_1_0_0_1_n_n none e Wi) (Host.dotGeneral dot_S8x512_S512x2048_S8x2048_1_0_0_1_n_n none h Wh)) (rows2048 bl)

def ones : FVec F S8x512 .f32 := broadcastInDim S8x512 ![] bcast_S_S8x512 (constant S_ .f32 0x3F800000#32)

/-- The logistic function spelt out. -/
def sigm (x : FVec F S8x512 .f32) : FVec F S8x512 .f32 := Host.divf ones (addf ones (Host.exp (Host.negf x)))

/-- The new cell state. -/
def cell (g : FVec F S8x2048 .f32) (c : FVec F S8x512 .f32) : FVec F S8x512 .f32 :=
  addf (mulf (sigm (extractStridedSlice S8x512 ![0, 512] g slices_S8x2048_S8x512_0_512)) c)
    (mulf (sigm (extractStridedSlice S8x512 ![0, 0] g slices_S8x2048_S8x512_0_0)) (Host.tanh (extractStridedSlice S8x512 ![0, 1024] g slices_S8x2048_S8x512_0_1024)))

/-- The new hidden state. -/
def hidden (g : FVec F S8x2048 .f32) (c : FVec F S8x512 .f32) : FVec F S8x512 .f32 :=
  mulf (sigm (extractStridedSlice S8x512 ![0, 1536] g slices_S8x2048_S8x512_0_1536)) (Host.tanh (cell g c))

/-- The logits with the bias. -/
def logits (e : FVec F S8x512 .f32) (h : FVec F S8x512 .f32) (Wp : FVec F S512x512 .f32) (bj : FVec F S512 .f32) (Wo : FVec F S512x1024 .f32) (bo : FVec F S1024 .f32) : FVec F S8x1024 .f32 :=
  addf (Host.dotGeneral dot_S8x512_S512x1024_S8x1024_1_0_0_1_n_n none
    (Host.tanh (addf (addf e (Host.dotGeneral dot_S8x512_S512x512_S8x512_1_0_0_1_n_n none h Wp)) (rows512 bj))) Wo) (rows1024 bo)

/-- The token of each row of logits. -/
def token (L : FVec F S8x1024 .f32) : IVec S8 32 := fun j =>
  (Host.argReduce reducer_argmax_f32_i32 L (iotaInDim S8x1024 32 1) (constant S_ .f32 0xFF800000#32) (constantI S_ 32 0#32) reducesTo_S8x1024_S8_d1 h_S_ j).2

/-- Whether a token is the blank. -/
def blank (t : IVec S8 32) : IVec S8 1 := cmpi .eq t (broadcastInDim S8 ![] bcast_S_S8 (constantI S_ 32 0#32))

/-- The old rows where the mask holds, the new ones elsewhere. -/
def pick (b : IVec S8 1) (x y : FVec F S8x512 .f32) : FVec F S8x512 .f32 :=
  select (broadcastInDim S8x512 ![0, 1] bcast_S8x1_S8x512_0_1 (broadcastInDim S8x1 ![0] bcast_S8_S8x1_0 b)) x y

/-- The table of tokens with row `i` set. -/
def putRow (H : IVec S256x8 32) (t : IVec S8 32) (i : IVec S_ 32) : IVec S256x8 32 :=
  Host.dynamicUpdateSlice H (broadcastInDim S1x8 ![1] bcast_S8_S1x8_1 t) ![(i (Shape.Idx.first h_S_)).toInt, 0] updateFits_S256x8_S1x8

section Stretches
variable (V : Valuation τ sig (Elt F))

/-- The contents after the loop's test, and after each stretch of its body. -/
def w0 : Valuation τ sig (Elt F) := after condOps V
def w1 : Valuation τ sig (Elt F) := after while0Ops0 (w0 V)
def w2 : Valuation τ sig (Elt F) := after while0Ops0_1 (w1 V)
def w3 : Valuation τ sig (Elt F) := after while0Ops0_2 (w2 V)
def w4 : Valuation τ sig (Elt F) := after while0Ops0_3 (w3 V)
def w5 : Valuation τ sig (Elt F) := after while0Ops0_4 (w4 V)
def w6 : Valuation τ sig (Elt F) := after while0Ops0_5 (w5 V)
def w7 : Valuation τ sig (Elt F) := after while0Ops0_6 (w6 V)
def w8 : Valuation τ sig (Elt F) := after while0Ops0_7 (w7 V)
def w9 : Valuation τ sig (Elt F) := after while0Ops0_8 (w8 V)
def w10 : Valuation τ sig (Elt F) := after while0Ops0_9 (w9 V)
def w11 : Valuation τ sig (Elt F) := after while0Ops0_10 (w10 V)
theorem trip_eq : trip V = w11 V := rfl

theorem k0 (r : Ref sig .tc) (h : r ∉ condOps_W) : w0 V (Proc.devRef .tc r) = V (Proc.devRef .tc r) := after_of_writes_sub condOps _ condOps_writes h
theorem k1 (r : Ref sig .tc) (h : r ∉ while0Ops0_W) : w1 V (Proc.devRef .tc r) = w0 V (Proc.devRef .tc r) := after_of_writes_sub while0Ops0 _ while0Ops0_writes h
theorem k2 (r : Ref sig .tc) (h : r ∉ while0Ops0_1_W) : w2 V (Proc.devRef .tc r) = w1 V (Proc.devRef .tc r) := after_of_writes_sub while0Ops0_1 _ while0Ops0_1_writes h
theorem k3 (r : Ref sig .tc) (h : r ∉ while0Ops0_2_W) : w3 V (Proc.devRef .tc r) = w2 V (Proc.devRef .tc r) := after_of_writes_sub while0Ops0_2 _ while0Ops0_2_writes h
theorem k4 (r : Ref sig .tc) (h : r ∉ while0Ops0_3_W) : w4 V (Proc.devRef .tc r) = w3 V (Proc.devRef .tc r) := after_of_writes_sub while0Ops0_3 _ while0Ops0_3_writes h
theorem k5 (r : Ref sig .tc) (h : r ∉ while0Ops0_4_W) : w5 V (Proc.devRef .tc r) = w4 V (Proc.devRef .tc r) := after_of_writes_sub while0Ops0_4 _ while0Ops0_4_writes h
theorem k6 (r : Ref sig .tc) (h : r ∉ while0Ops0_5_W) : w6 V (Proc.devRef .tc r) = w5 V (Proc.devRef .tc r) := after_of_writes_sub while0Ops0_5 _ while0Ops0_5_writes h
theorem k7 (r : Ref sig .tc) (h : r ∉ while0Ops0_6_W) : w7 V (Proc.devRef .tc r) = w6 V (Proc.devRef .tc r) := after_of_writes_sub while0Ops0_6 _ while0Ops0_6_writes h
theorem k8 (r : Ref sig .tc) (h : r ∉ while0Ops0_7_W) : w8 V (Proc.devRef .tc r) = w7 V (Proc.devRef .tc r) := after_of_writes_sub while0Ops0_7 _ while0Ops0_7_writes h
theorem k9 (r : Ref sig .tc) (h : r ∉ while0Ops0_8_W) : w9 V (Proc.devRef .tc r) = w8 V (Proc.devRef .tc r) := after_of_writes_sub while0Ops0_8 _ while0Ops0_8_writes h
theorem k10 (r : Ref sig .tc) (h : r ∉ while0Ops0_9_W) : w10 V (Proc.devRef .tc r) = w9 V (Proc.devRef .tc r) := after_of_writes_sub while0Ops0_9 _ while0Ops0_9_writes h
theorem k11 (r : Ref sig .tc) (h : r ∉ while0Ops0_10_W) : w11 V (Proc.devRef .tc r) = w10 V (Proc.devRef .tc r) := after_of_writes_sub while0Ops0_10 _ while0Ops0_10_writes h
end Stretches

theorem s_enc (V : Valuation τ sig (Elt F)) : after while0Ops0 V (Proc.devRef .tc main_while0b_v21) = (encRow (V (Proc.devRef .tc main_v8_0)) (V (Proc.devRef .tc main_v8_9)) : FVec F S8x512 .f32) := by
  after_results_simp_entrywise
  unfold encRow
  exact congrArg (fun o => shapeCast S8x512 (Host.dynamicSlice S1x8x512 (V (Proc.devRef .tc main_v8_0)) o sliceFits_S256x8x512_S1x8x512) shapeCasts_S1x8x512_S8x512)
    (funext fun k => match k with | ⟨0, _⟩ => rfl | ⟨1, _⟩ => rfl | ⟨2, _⟩ => rfl)

theorem s_emb (V : Valuation τ sig (Elt F)) : after while0Ops0_1 V (Proc.devRef .tc main_while0b_v22) = (takeRows (V (Proc.devRef .tc main_v8_1)) (V (Proc.devRef .tc main_v8_12)) : FVec F S8x512 .f32) := by
  after_results_entrywise []

theorem s_cell (V : Valuation τ sig (Elt F)) : after while0Ops0_2 V (Proc.devRef .tc main_while0b_v48) = (cell (gateSums (V (Proc.devRef .tc main_while0b_v22)) (V (Proc.devRef .tc main_v8_2)) (V (Proc.devRef .tc main_v8_10)) (V (Proc.devRef .tc main_v8_3)) (V (Proc.devRef .tc main_v8_4))) (V (Proc.devRef .tc main_v8_11)) : FVec F S8x512 .f32) := by
  after_results_entrywise []

theorem s_hidden (V : Valuation τ sig (Elt F)) : after while0Ops0_2 V (Proc.devRef .tc main_while0b_v56) = (hidden (gateSums (V (Proc.devRef .tc main_while0b_v22)) (V (Proc.devRef .tc main_v8_2)) (V (Proc.devRef .tc main_v8_10)) (V (Proc.devRef .tc main_v8_3)) (V (Proc.devRef .tc main_v8_4))) (V (Proc.devRef .tc main_v8_11)) : FVec F S8x512 .f32) := by
  after_results_entrywise []

theorem s_logits (V : Valuation τ sig (Elt F)) : after while0Ops0_2 V (Proc.devRef .tc main_while0b_v66) = (logits (V (Proc.devRef .tc main_while0b_v21)) (hidden (gateSums (V (Proc.devRef .tc main_while0b_v22)) (V (Proc.devRef .tc main_v8_2)) (V (Proc.devRef .tc main_v8_10)) (V (Proc.devRef .tc main_v8_3)) (V (Proc.devRef .tc main_v8_4))) (V (Proc.devRef .tc main_v8_11))) (V (Proc.devRef .tc main_v8_5)) (V (Proc.devRef .tc main_v8_6)) (V (Proc.devRef .tc main_v8_7)) (V (Proc.devRef .tc main_v8_8)) : FVec F S8x1024 .f32) := by
  after_results_entrywise []

theorem s_token (V : Valuation τ sig (Elt F)) : after while0Ops0_3 V (Proc.devRef .tc main_while0b_v67) = (token (V (Proc.devRef .tc main_while0b_v66)) : IVec S8 32) := by
  after_results_entrywise []

theorem s_blank (V : Valuation τ sig (Elt F)) : after while0Ops0_4 V (Proc.devRef .tc main_while0b_v69) = (blank (V (Proc.devRef .tc main_while0b_v67)) : IVec S8 1) := by
  after_results_entrywise []

theorem s_blankc (V : Valuation τ sig (Elt F)) : after while0Ops0_4 V (Proc.devRef .tc main_while0b_v70) = (broadcastInDim S8x1 ![0] bcast_S8_S8x1_0 (blank (V (Proc.devRef .tc main_while0b_v67))) : IVec S8x1 1) := by
  after_results_entrywise []

theorem s_h (V : Valuation τ sig (Elt F)) : after while0Ops0_5 V (Proc.devRef .tc main_while0b_v71) = (select (broadcastInDim S8x512 ![0, 1] bcast_S8x1_S8x512_0_1 (V (Proc.devRef .tc main_while0b_v70))) (V (Proc.devRef .tc main_v8_10)) (V (Proc.devRef .tc main_while0b_v56)) : FVec F S8x512 .f32) := by
  after_results_entrywise []

theorem s_blankd (V : Valuation τ sig (Elt F)) : after while0Ops0_6 V (Proc.devRef .tc main_while0b_v72) = (broadcastInDim S8x1 ![0] bcast_S8_S8x1_0 (V (Proc.devRef .tc main_while0b_v69)) : IVec S8x1 1) := by
  after_results_entrywise []

theorem s_c (V : Valuation τ sig (Elt F)) : after while0Ops0_7 V (Proc.devRef .tc main_while0b_v73) = (select (broadcastInDim S8x512 ![0, 1] bcast_S8x1_S8x512_0_1 (V (Proc.devRef .tc main_while0b_v72))) (V (Proc.devRef .tc main_v8_11)) (V (Proc.devRef .tc main_while0b_v48)) : FVec F S8x512 .f32) := by
  after_results_entrywise []

theorem s_prev (V : Valuation τ sig (Elt F)) : after while0Ops0_8 V (Proc.devRef .tc main_while0b_v74) = (select (V (Proc.devRef .tc main_while0b_v69)) (V (Proc.devRef .tc main_v8_12)) (V (Proc.devRef .tc main_while0b_v67)) : IVec S8 32) := by
  after_results_entrywise []

theorem s_hyps (V : Valuation τ sig (Elt F)) : after while0Ops0_9 V (Proc.devRef .tc main_while0b_v75) = (putRow (V (Proc.devRef .tc main_v8_13)) (V (Proc.devRef .tc main_while0b_v67)) (V (Proc.devRef .tc main_v8_9)) : IVec S256x8 32) := by
  after_results_simp_entrywise
  unfold putRow
  exact congrArg (fun o => Host.dynamicUpdateSlice (V (Proc.devRef .tc main_v8_13)) (broadcastInDim S1x8 ![1] bcast_S8_S1x8_1 (V (Proc.devRef .tc main_while0b_v67))) o updateFits_S256x8_S1x8)
    (funext fun k => match k with | ⟨0, _⟩ => rfl | ⟨1, _⟩ => rfl :
      (fun k : Fin 2 => BitVec.toInt ((![V (Proc.devRef .tc main_v8_9), constantI S_ 32 0#32] : Fin 2 → IVec S_ 32) k (Shape.Idx.first h_S_)))
        = ![BitVec.toInt ((V (Proc.devRef .tc main_v8_9) : IVec S_ 32) (Shape.Idx.first h_S_)), 0])

theorem s_carry10 (V : Valuation τ sig (Elt F)) : after while0Ops0_10 V (Proc.devRef .tc main_v8_10) = ((V (Proc.devRef .tc main_while0b_v71))) := by
  after_results_entrywise []

theorem s_carry11 (V : Valuation τ sig (Elt F)) : after while0Ops0_10 V (Proc.devRef .tc main_v8_11) = ((V (Proc.devRef .tc main_while0b_v73))) := by
  after_results_entrywise []

theorem s_carry12 (V : Valuation τ sig (Elt F)) : after while0Ops0_10 V (Proc.devRef .tc main_v8_12) = ((V (Proc.devRef .tc main_while0b_v74))) := by
  after_results_entrywise []

theorem s_carry13 (V : Valuation τ sig (Elt F)) : after while0Ops0_10 V (Proc.devRef .tc main_v8_13) = ((V (Proc.devRef .tc main_while0b_v75))) := by
  after_results_entrywise []

section Trip
variable (V : Valuation τ sig (Elt F))

/-- The gate sums, the logits and the token of a trip. -/
def tG : FVec F S8x2048 .f32 := (gateSums (takeRows (V (Proc.devRef .tc main_v8_1)) (V (Proc.devRef .tc main_v8_12))) (V (Proc.devRef .tc main_v8_2)) (V (Proc.devRef .tc main_v8_10)) (V (Proc.devRef .tc main_v8_3)) (V (Proc.devRef .tc main_v8_4)))
def tL : FVec F S8x1024 .f32 := logits (encRow (V (Proc.devRef .tc main_v8_0)) (V (Proc.devRef .tc main_v8_9))) (hidden (tG V) (V (Proc.devRef .tc main_v8_11))) (V (Proc.devRef .tc main_v8_5)) (V (Proc.devRef .tc main_v8_6)) (V (Proc.devRef .tc main_v8_7)) (V (Proc.devRef .tc main_v8_8))
def tT : IVec S8 32 := token (tL V)

theorem w_enc : w1 V (Proc.devRef .tc main_while0b_v21) = (encRow (V (Proc.devRef .tc main_v8_0)) (V (Proc.devRef .tc main_v8_9))) := by
  refine (s_enc (w0 V)).trans ?_
  rw [k0 _ main_v8_0 (by decide +kernel),
    k0 _ main_v8_9 (by decide +kernel)]
theorem w_emb : w2 V (Proc.devRef .tc main_while0b_v22) = (takeRows (V (Proc.devRef .tc main_v8_1)) (V (Proc.devRef .tc main_v8_12))) := by
  refine (s_emb (w1 V)).trans ?_
  rw [k1 _ main_v8_1 (by decide +kernel),
    k0 _ main_v8_1 (by decide +kernel),
    k1 _ main_v8_12 (by decide +kernel),
    k0 _ main_v8_12 (by decide +kernel)]
theorem w_cell : w3 V (Proc.devRef .tc main_while0b_v48) = cell (tG V) (V (Proc.devRef .tc main_v8_11)) := by
  refine (s_cell (w2 V)).trans ?_
  rw [w_emb,
    k2 _ main_v8_2 (by decide +kernel),
    k1 _ main_v8_2 (by decide +kernel),
    k0 _ main_v8_2 (by decide +kernel),
    k2 _ main_v8_10 (by decide +kernel),
    k1 _ main_v8_10 (by decide +kernel),
    k0 _ main_v8_10 (by decide +kernel),
    k2 _ main_v8_3 (by decide +kernel),
    k1 _ main_v8_3 (by decide +kernel),
    k0 _ main_v8_3 (by decide +kernel),
    k2 _ main_v8_4 (by decide +kernel),
    k1 _ main_v8_4 (by decide +kernel),
    k0 _ main_v8_4 (by decide +kernel),
    k2 _ main_v8_11 (by decide +kernel),
    k1 _ main_v8_11 (by decide +kernel),
    k0 _ main_v8_11 (by decide +kernel),
    tG]
theorem w_hidden : w3 V (Proc.devRef .tc main_while0b_v56) = hidden (tG V) (V (Proc.devRef .tc main_v8_11)) := by
  refine (s_hidden (w2 V)).trans ?_
  rw [w_emb,
    k2 _ main_v8_2 (by decide +kernel),
    k1 _ main_v8_2 (by decide +kernel),
    k0 _ main_v8_2 (by decide +kernel),
    k2 _ main_v8_10 (by decide +kernel),
    k1 _ main_v8_10 (by decide +kernel),
    k0 _ main_v8_10 (by decide +kernel),
    k2 _ main_v8_3 (by decide +kernel),
    k1 _ main_v8_3 (by decide +kernel),
    k0 _ main_v8_3 (by decide +kernel),
    k2 _ main_v8_4 (by decide +kernel),
    k1 _ main_v8_4 (by decide +kernel),
    k0 _ main_v8_4 (by decide +kernel),
    k2 _ main_v8_11 (by decide +kernel),
    k1 _ main_v8_11 (by decide +kernel),
    k0 _ main_v8_11 (by decide +kernel),
    tG]
theorem w_logits : w3 V (Proc.devRef .tc main_while0b_v66) = tL V := by
  refine (s_logits (w2 V)).trans ?_
  rw [w_emb,
    k2 _ main_v8_2 (by decide +kernel),
    k1 _ main_v8_2 (by decide +kernel),
    k0 _ main_v8_2 (by decide +kernel),
    k2 _ main_v8_10 (by decide +kernel),
    k1 _ main_v8_10 (by decide +kernel),
    k0 _ main_v8_10 (by decide +kernel),
    k2 _ main_v8_3 (by decide +kernel),
    k1 _ main_v8_3 (by decide +kernel),
    k0 _ main_v8_3 (by decide +kernel),
    k2 _ main_v8_4 (by decide +kernel),
    k1 _ main_v8_4 (by decide +kernel),
    k0 _ main_v8_4 (by decide +kernel),
    k2 _ main_v8_11 (by decide +kernel),
    k1 _ main_v8_11 (by decide +kernel),
    k0 _ main_v8_11 (by decide +kernel),
    k2 _ main_v8_5 (by decide +kernel),
    k1 _ main_v8_5 (by decide +kernel),
    k0 _ main_v8_5 (by decide +kernel),
    k2 _ main_v8_6 (by decide +kernel),
    k1 _ main_v8_6 (by decide +kernel),
    k0 _ main_v8_6 (by decide +kernel),
    k2 _ main_v8_7 (by decide +kernel),
    k1 _ main_v8_7 (by decide +kernel),
    k0 _ main_v8_7 (by decide +kernel),
    k2 _ main_v8_8 (by decide +kernel),
    k1 _ main_v8_8 (by decide +kernel),
    k0 _ main_v8_8 (by decide +kernel),
    k2 _ main_while0b_v21 (by decide +kernel),
    w_enc,
    tL,
    tG]
theorem w_token : w4 V (Proc.devRef .tc main_while0b_v67) = tT V := by
  refine (s_token (w3 V)).trans ?_
  rw [w_logits,
    tT]
theorem w_blank : w5 V (Proc.devRef .tc main_while0b_v69) = blank (tT V) := by
  refine (s_blank (w4 V)).trans ?_
  rw [w_token]
theorem w_blankc : w5 V (Proc.devRef .tc main_while0b_v70) = broadcastInDim S8x1 ![0] bcast_S8_S8x1_0 (blank (tT V)) := by
  refine (s_blankc (w4 V)).trans ?_
  rw [w_token]
theorem w_h : w6 V (Proc.devRef .tc main_while0b_v71) = pick (blank (tT V)) (V (Proc.devRef .tc main_v8_10)) (hidden (tG V) (V (Proc.devRef .tc main_v8_11))) := by
  refine (s_h (w5 V)).trans ?_
  rw [w_blankc,
    k5 _ main_v8_10 (by decide +kernel),
    k4 _ main_v8_10 (by decide +kernel),
    k3 _ main_v8_10 (by decide +kernel),
    k2 _ main_v8_10 (by decide +kernel),
    k1 _ main_v8_10 (by decide +kernel),
    k0 _ main_v8_10 (by decide +kernel),
    k5 _ main_while0b_v56 (by decide +kernel),
    k4 _ main_while0b_v56 (by decide +kernel),
    w_hidden,
    pick]
theorem w_blankd : w7 V (Proc.devRef .tc main_while0b_v72) = broadcastInDim S8x1 ![0] bcast_S8_S8x1_0 (blank (tT V)) := by
  refine (s_blankd (w6 V)).trans ?_
  rw [k6 _ main_while0b_v69 (by decide +kernel),
    w_blank]
theorem w_c : w8 V (Proc.devRef .tc main_while0b_v73) = pick (blank (tT V)) (V (Proc.devRef .tc main_v8_11)) (cell (tG V) (V (Proc.devRef .tc main_v8_11))) := by
  refine (s_c (w7 V)).trans ?_
  rw [w_blankd,
    k7 _ main_v8_11 (by decide +kernel),
    k6 _ main_v8_11 (by decide +kernel),
    k5 _ main_v8_11 (by decide +kernel),
    k4 _ main_v8_11 (by decide +kernel),
    k3 _ main_v8_11 (by decide +kernel),
    k2 _ main_v8_11 (by decide +kernel),
    k1 _ main_v8_11 (by decide +kernel),
    k0 _ main_v8_11 (by decide +kernel),
    k7 _ main_while0b_v48 (by decide +kernel),
    k6 _ main_while0b_v48 (by decide +kernel),
    k5 _ main_while0b_v48 (by decide +kernel),
    k4 _ main_while0b_v48 (by decide +kernel),
    w_cell,
    pick]
theorem w_prev : w9 V (Proc.devRef .tc main_while0b_v74) = select (blank (tT V)) (V (Proc.devRef .tc main_v8_12)) (tT V) := by
  refine (s_prev (w8 V)).trans ?_
  rw [k8 _ main_while0b_v69 (by decide +kernel),
    k7 _ main_while0b_v69 (by decide +kernel),
    k6 _ main_while0b_v69 (by decide +kernel),
    w_blank,
    k8 _ main_v8_12 (by decide +kernel),
    k7 _ main_v8_12 (by decide +kernel),
    k6 _ main_v8_12 (by decide +kernel),
    k5 _ main_v8_12 (by decide +kernel),
    k4 _ main_v8_12 (by decide +kernel),
    k3 _ main_v8_12 (by decide +kernel),
    k2 _ main_v8_12 (by decide +kernel),
    k1 _ main_v8_12 (by decide +kernel),
    k0 _ main_v8_12 (by decide +kernel),
    k8 _ main_while0b_v67 (by decide +kernel),
    k7 _ main_while0b_v67 (by decide +kernel),
    k6 _ main_while0b_v67 (by decide +kernel),
    k5 _ main_while0b_v67 (by decide +kernel),
    w_token]
theorem w_hyps : w10 V (Proc.devRef .tc main_while0b_v75) = putRow (V (Proc.devRef .tc main_v8_13)) (tT V) (V (Proc.devRef .tc main_v8_9)) := by
  refine (s_hyps (w9 V)).trans ?_
  rw [k9 _ main_v8_13 (by decide +kernel),
    k8 _ main_v8_13 (by decide +kernel),
    k7 _ main_v8_13 (by decide +kernel),
    k6 _ main_v8_13 (by decide +kernel),
    k5 _ main_v8_13 (by decide +kernel),
    k4 _ main_v8_13 (by decide +kernel),
    k3 _ main_v8_13 (by decide +kernel),
    k2 _ main_v8_13 (by decide +kernel),
    k1 _ main_v8_13 (by decide +kernel),
    k0 _ main_v8_13 (by decide +kernel),
    k9 _ main_while0b_v67 (by decide +kernel),
    k8 _ main_while0b_v67 (by decide +kernel),
    k7 _ main_while0b_v67 (by decide +kernel),
    k6 _ main_while0b_v67 (by decide +kernel),
    k5 _ main_while0b_v67 (by decide +kernel),
    w_token,
    k9 _ main_v8_9 (by decide +kernel),
    k8 _ main_v8_9 (by decide +kernel),
    k7 _ main_v8_9 (by decide +kernel),
    k6 _ main_v8_9 (by decide +kernel),
    k5 _ main_v8_9 (by decide +kernel),
    k4 _ main_v8_9 (by decide +kernel),
    k3 _ main_v8_9 (by decide +kernel),
    k2 _ main_v8_9 (by decide +kernel),
    k1 _ main_v8_9 (by decide +kernel),
    k0 _ main_v8_9 (by decide +kernel)]

/-- A trip's new hidden state, cell state, last emitted token and table of tokens. -/
theorem w_trip_h : w11 V (Proc.devRef .tc main_v8_10) = pick (blank (tT V)) (V (Proc.devRef .tc main_v8_10)) (hidden (tG V) (V (Proc.devRef .tc main_v8_11))) := by
  refine (s_carry10 (w10 V)).trans ?_
  rw [k10 _ main_while0b_v71 (by decide +kernel),
    k9 _ main_while0b_v71 (by decide +kernel),
    k8 _ main_while0b_v71 (by decide +kernel),
    k7 _ main_while0b_v71 (by decide +kernel),
    w_h]
theorem w_trip_c : w11 V (Proc.devRef .tc main_v8_11) = pick (blank (tT V)) (V (Proc.devRef .tc main_v8_11)) (cell (tG V) (V (Proc.devRef .tc main_v8_11))) := by
  refine (s_carry11 (w10 V)).trans ?_
  rw [k10 _ main_while0b_v73 (by decide +kernel),
    k9 _ main_while0b_v73 (by decide +kernel),
    w_c]
theorem w_trip_prev : w11 V (Proc.devRef .tc main_v8_12) = select (blank (tT V)) (V (Proc.devRef .tc main_v8_12)) (tT V) := by
  refine (s_carry12 (w10 V)).trans ?_
  rw [k10 _ main_while0b_v74 (by decide +kernel),
    w_prev]
theorem w_trip_hyps : w11 V (Proc.devRef .tc main_v8_13) = putRow (V (Proc.devRef .tc main_v8_13)) (tT V) (V (Proc.devRef .tc main_v8_9)) := by
  refine (s_carry13 (w10 V)).trans ?_
  rw [w_hyps]

end Trip

end Cert.Reference

end
-- ==== Proof.RefRun.lean ====
/-
  The reference's whole run as functions of its arguments: what its loop is entered with, and what it returns of the state
  its loop ends in.
-/
module

public import proofs.«01_k».proof.Proof.RefStep

@[expose] public section

set_option maxRecDepth 65536

noncomputable section

namespace Cert.Reference

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The projected encoder output, frames first. -/
def projected (X : FVec F S8x256x512 .f32) (W : FVec F S512x512 .f32) : FVec F S256x8x512 .f32 :=
  transpose S256x8x512 [1, 0, 2] (Host.dotGeneral dot_S8x256x512_S512x512_S8x256x512_2_0_01_1_n_n none X W) transposes_S8x256x512_S256x8x512_1_0_2

/-- The two halves of the cached state. -/
def half0 (C : FVec F S2x8x512 .f32) : FVec F S8x512 .f32 :=
  shapeCast S8x512 (extractStridedSlice S1x8x512 ![0, 0, 0] C slices_S2x8x512_S1x8x512_0_0_0) shapeCasts_S1x8x512_S8x512
def half1 (C : FVec F S2x8x512 .f32) : FVec F S8x512 .f32 :=
  shapeCast S8x512 (extractStridedSlice S1x8x512 ![1, 0, 0] C slices_S2x8x512_S1x8x512_1_0_0) shapeCasts_S1x8x512_S8x512

def zeroTokens : IVec S8 32 := broadcastInDim S8 ![] bcast_S_S8 (constantI S_ 32 0#32)
def zeroTable : IVec S256x8 32 := broadcastInDim S256x8 ![] bcast_S_S256x8 (constantI S_ 32 0#32)

/-- The tokens of the frames within each sample's length, zero beyond it. -/
def masked (H : IVec S256x8 32) (ln : IVec S8 32) : IVec S8x256 32 :=
  select (cmpi .slt (broadcastInDim S8x256 ![0, 1] bcast_S1x256_S8x256_0_1 (broadcastInDim S1x256 ![1] bcast_S256_S1x256_1 (iotaInDim S256 32 0)))
      (broadcastInDim S8x256 ![0, 1] bcast_S8x1_S8x256_0_1 (broadcastInDim S8x1 ![0] bcast_S8_S8x1_0 ln)))
    (transpose S8x256 [1, 0] H transposes_S256x8_S8x256_1_0) (broadcastInDim S8x256 ![] bcast_S_S8x256 (constantI S_ 32 0#32))

/-- A token as a position in the label table: a negative one counts from the end. -/
def wrapLabel (q : IVec S8x256 32) : IVec S8x256x1 32 :=
  broadcastInDim S8x256x1 ![0, 1] bcast_S8x256_S8x256x1_0_1 (select (cmpi .slt q (broadcastInDim S8x256 ![] bcast_S_S8x256 (constantI S_ 32 0#32)))
    (addi q (broadcastInDim S8x256 ![] bcast_S_S8x256 (constantI S_ 32 1024#32))) q)

/-- Whether a position is in the label table. -/
def inLabels (q : IVec S8x256x1 32) : IVec S8x256 1 :=
  Host.reduce IntOp.andi (andi (cmpi .sge q (broadcastInDim S8x256x1 ![] bcast_S_S8x256x1 (constantI S_ 32 0#32)))
    (cmpi .sle q (broadcastInDim S8x256x1 ![0, 1, 2] bcast_S1x1x1_S8x256x1_0_1_2 (broadcastInDim S1x1x1 ![2] bcast_S1_S1x1x1_2 (constantI S1 32 1023#32)))))
    (constantI S_ 1 1#1) reducesTo_S8x256x1_S8x256_d2 h_S_

/-- The labels of a table of tokens. -/
def takeLabels (T : IVec S1024 32) (q : IVec S8x256 32) : IVec S8x256 32 :=
  select (inLabels (wrapLabel q)) (Host.gather gather_S1024_S8x256x1_S8x256_n_0_n_n_0_2_1 T (wrapLabel q))
    (broadcastInDim S8x256 ![] bcast_S_S8x256 (constantI S_ 32 2147483648#32))

/-- Hidden state and cell state, one above the other. -/
def stacked (h c : FVec F S8x512 .f32) : FVec F S2x8x512 .f32 :=
  concatenate S2x8x512 0 [⟨S1x8x512, broadcastInDim S1x8x512 ![1, 2] bcast_S8x512_S1x8x512_1_2 h⟩,
    ⟨S1x8x512, broadcastInDim S1x8x512 ![1, 2] bcast_S8x512_S1x8x512_1_2 c⟩] concatenates_S1x8x512_S1x8x512_S2x8x512_d0

section Entry
variable (m : (ℓ : Loc nD τ sig) → Buf (Elt F) ℓ) (c : Dev nD)

theorem entry0 : entryContents preI m c (Proc.devRef .tc main_v8_0) = (projected (m (c.tc.loc main_arg0)) (m (c.tc.loc main_arg7)) : FVec F S256x8x512 .f32) := by
  simp only [entryContents, afterL_cons, afterL_nil]
  after_results_entrywise []
theorem entry1 : entryContents preI m c (Proc.devRef .tc main_v8_1) = (m (c.tc.loc main_arg3) : FVec F S1024x512 .f32) := by
  simp only [entryContents, afterL_cons, afterL_nil]
  after_results_entrywise []
theorem entry2 : entryContents preI m c (Proc.devRef .tc main_v8_2) = (m (c.tc.loc main_arg4) : FVec F S512x2048 .f32) := by
  simp only [entryContents, afterL_cons, afterL_nil]
  after_results_entrywise []
theorem entry3 : entryContents preI m c (Proc.devRef .tc main_v8_3) = (m (c.tc.loc main_arg5) : FVec F S512x2048 .f32) := by
  simp only [entryContents, afterL_cons, afterL_nil]
  after_results_entrywise []
theorem entry4 : entryContents preI m c (Proc.devRef .tc main_v8_4) = (m (c.tc.loc main_arg6) : FVec F S2048 .f32) := by
  simp only [entryContents, afterL_cons, afterL_nil]
  after_results_entrywise []
theorem entry5 : entryContents preI m c (Proc.devRef .tc main_v8_5) = (m (c.tc.loc main_arg8) : FVec F S512x512 .f32) := by
  simp only [entryContents, afterL_cons, afterL_nil]
  after_results_entrywise []
theorem entry6 : entryContents preI m c (Proc.devRef .tc main_v8_6) = (m (c.tc.loc main_arg9) : FVec F S512 .f32) := by
  simp only [entryContents, afterL_cons, afterL_nil]
  after_results_entrywise []
theorem entry7 : entryContents preI m c (Proc.devRef .tc main_v8_7) = (m (c.tc.loc main_arg10) : FVec F S512x1024 .f32) := by
  simp only [entryContents, afterL_cons, afterL_nil]
  after_results_entrywise []
theorem entry8 : entryContents preI m c (Proc.devRef .tc main_v8_8) = (m (c.tc.loc main_arg11) : FVec F S1024 .f32) := by
  simp only [entryContents, afterL_cons, afterL_nil]
  after_results_entrywise []
theorem entry10 : entryContents preI m c (Proc.devRef .tc main_v8_10) = (half0 (m (c.tc.loc main_arg2)) : FVec F S8x512 .f32) := by
  simp only [entryContents, afterL_cons, afterL_nil]
  after_results_entrywise []
theorem entry11 : entryContents preI m c (Proc.devRef .tc main_v8_11) = (half1 (m (c.tc.loc main_arg2)) : FVec F S8x512 .f32) := by
  simp only [entryContents, afterL_cons, afterL_nil]
  after_results_entrywise []
theorem entry12 : entryContents preI m c (Proc.devRef .tc main_v8_12) = (zeroTokens : IVec S8 32) := by
  simp only [entryContents, afterL_cons, afterL_nil]
  after_results_entrywise []
theorem entry13 : entryContents preI m c (Proc.devRef .tc main_v8_13) = (zeroTable : IVec S256x8 32) := by
  simp only [entryContents, afterL_cons, afterL_nil]
  after_results_entrywise []
theorem entry_arg1 : entryContents preI m c (Proc.devRef .tc main_arg1) = m (c.tc.loc main_arg1) := by
  simp only [entryContents, afterL_cons, afterL_nil]
  exact after_of_writes_sub hostOps0 _ hostOps0_writes (by decide +kernel)
theorem entry_arg12 : entryContents preI m c (Proc.devRef .tc main_arg12) = m (c.tc.loc main_arg12) := by
  simp only [entryContents, afterL_cons, afterL_nil]
  exact after_of_writes_sub hostOps0 _ hostOps0_writes (by decide +kernel)
end Entry

section Exit
variable (V : Valuation τ sig (Elt F))

theorem x_tokens : after hostOps0_1 V (Proc.devRef .tc main_v9) = (transpose S8x256 [1, 0] (V (Proc.devRef .tc main_v8_13)) transposes_S256x8_S8x256_1_0 : IVec S8x256 32) := by
  after_results_entrywise []
theorem x_within : after hostOps0_1 V (Proc.devRef .tc main_v15) = (cmpi .slt (broadcastInDim S8x256 ![0, 1] bcast_S1x256_S8x256_0_1 (broadcastInDim S1x256 ![1] bcast_S256_S1x256_1 (iotaInDim S256 32 0)))
      (broadcastInDim S8x256 ![0, 1] bcast_S8x1_S8x256_0_1 (broadcastInDim S8x1 ![0] bcast_S8_S8x1_0 (V (Proc.devRef .tc main_arg1)))) : IVec S8x256 1) := by
  after_results_entrywise []
theorem x_zero : after hostOps0_1 V (Proc.devRef .tc main_c_2) = (constantI S_ 32 0#32 : IVec S_ 32) := by
  after_results_entrywise []
theorem x_masked : after hostOps0_2 V (Proc.devRef .tc main_v16) = (select (V (Proc.devRef .tc main_v15)) (V (Proc.devRef .tc main_v9)) (broadcastInDim S8x256 ![] bcast_S_S8x256 (V (Proc.devRef .tc main_c_2))) : IVec S8x256 32) := by
  after_results_entrywise []
theorem x_labels : after hostOps0_3 V (Proc.devRef .tc main_v17) = (takeLabels (V (Proc.devRef .tc main_arg12)) (V (Proc.devRef .tc main_v16)) : IVec S8x256 32) := by
  after_results_entrywise []
theorem x_stacked : after hostOps0_4 V (Proc.devRef .tc main_v20) = (stacked (V (Proc.devRef .tc main_v8_10)) (V (Proc.devRef .tc main_v8_11)) : FVec F S2x8x512 .f32) := by
  after_results_entrywise []

theorem post_labels : afterL postI V (Proc.devRef .tc main_v17) = takeLabels (V (Proc.devRef .tc main_arg12)) (masked (V (Proc.devRef .tc main_v8_13)) (V (Proc.devRef .tc main_arg1))) := by
  simp only [afterL_cons, afterL_nil]
  rw [after_of_writes_sub hostOps0_4 _ hostOps0_4_writes (by decide +kernel : main_v17 ∉ hostOps0_4_W), x_labels, x_masked, x_tokens, x_within, x_zero,
    after_of_writes_sub hostOps0_2 _ hostOps0_2_writes (by decide +kernel : main_arg12 ∉ hostOps0_2_W),
    after_of_writes_sub hostOps0_1 _ hostOps0_1_writes (by decide +kernel : main_arg12 ∉ hostOps0_1_W), masked]
theorem post_stacked : afterL postI V (Proc.devRef .tc main_v20) = stacked (V (Proc.devRef .tc main_v8_10)) (V (Proc.devRef .tc main_v8_11)) := by
  simp only [afterL_cons, afterL_nil]
  rw [x_stacked,
    after_of_writes_sub hostOps0_3 _ hostOps0_3_writes (by decide +kernel : main_v8_10 ∉ hostOps0_3_W),
    after_of_writes_sub hostOps0_2 _ hostOps0_2_writes (by decide +kernel : main_v8_10 ∉ hostOps0_2_W),
    after_of_writes_sub hostOps0_1 _ hostOps0_1_writes (by decide +kernel : main_v8_10 ∉ hostOps0_1_W),
    after_of_writes_sub hostOps0_3 _ hostOps0_3_writes (by decide +kernel : main_v8_11 ∉ hostOps0_3_W),
    after_of_writes_sub hostOps0_2 _ hostOps0_2_writes (by decide +kernel : main_v8_11 ∉ hostOps0_2_W),
    after_of_writes_sub hostOps0_1 _ hostOps0_1_writes (by decide +kernel : main_v8_11 ∉ hostOps0_1_W)]
end Exit

section Run
variable (m : (ℓ : Loc nD τ sig) → Buf (Elt F) ℓ) (c : Dev nD)

/-- The reference's two results, of the state its loop ends in. -/
theorem final_labels : finalContents condOps preI bodyI postI 256 m c (Proc.devRef .tc main_v17)
    = takeLabels (m (c.tc.loc main_arg12)) (masked (atK m 256 c (Proc.devRef .tc main_v8_13)) (m (c.tc.loc main_arg1))) := by
  rw [final_eq, post_labels, cond_keep _ main_arg12 (by decide +kernel), cond_keep _ main_v8_13 (by decide +kernel), cond_keep _ main_arg1 (by decide +kernel),
    atK_keep m c main_arg12 (by decide +kernel), atK_keep m c main_arg1 (by decide +kernel), entry_arg12, entry_arg1]
theorem final_stacked : finalContents condOps preI bodyI postI 256 m c (Proc.devRef .tc main_v20)
    = stacked (atK m 256 c (Proc.devRef .tc main_v8_10)) (atK m 256 c (Proc.devRef .tc main_v8_11)) := by
  rw [final_eq, post_stacked, cond_keep _ main_v8_10 (by decide +kernel), cond_keep _ main_v8_11 (by decide +kernel)]
end Run

end Cert.Reference

end
-- ==== Proof.RefTake.lean ====
/-
  The reference's two table lookups read at an entry: with every token a row number, the rows of the table at the tokens.
-/
module

public import proofs.«01_k».proof.Proof.RefRun
public import Idealize.ShloMosaic.Lib.ValueLayout
public import Idealize.ShloMosaic.Lib.IdealHost
public import Idealize.ShloMosaic.Lib.ReduceAll
public import Idealize.ShloMosaic.Lib.DynamicIndex

@[expose] public section

noncomputable section

namespace Cert.Reference

open Cert.ReferenceIdeal Cert.ReferenceIdeal.Gen
open Idealize.ShloMosaic Idealize.ShloMosaic.ValueIdx

variable {F : FTy → Type} [FloatOps F]

/-- A word below 1024 read signed. -/
theorem toInt_small {w : BitVec 32} (h : w.toNat < 1024) : w.toInt = w.toNat := by
  rw [BitVec.toInt_eq_toNat_cond]
  split <;> omega

theorem not_negative {w : BitVec 32} (h : w.toNat < 1024) : IntOp.cmpi .slt w 0#32 = 0#1 := by
  have : ¬ w.toInt < 0 := by rw [toInt_small h]; omega
  simp [IntOp.cmpi, BitVec.slt, this]

theorem at_least_zero {w : BitVec 32} (h : w.toNat < 1024) : IntOp.cmpi .sge w 0#32 = 1#1 := by
  have : 0 ≤ w.toInt := by rw [toInt_small h]; omega
  simp [IntOp.cmpi, BitVec.sle, this]

theorem at_most_last {w : BitVec 32} (h : w.toNat < 1024) : IntOp.cmpi .sle w 1023#32 = 1#1 := by
  have : w.toInt ≤ 1023 := by rw [toInt_small h]; omega
  simp [IntOp.cmpi, BitVec.sle, this]

section Rows

/-- A token that is a row number is kept by the wrap. -/
theorem wrap_apply (p : IVec S8 32) (b : Fin 8) (z : Fin 1) (h : (p (ix1 b)).toNat < 1024) : wrap p (ix2 b z) = p (ix1 b) := by
  unfold wrap
  refine (broadcastInDim_apply ![0] bcast_S8_S8x1_0 _ (ix2 b z) (ix1 b) fun a => ?_).trans ?_
  · match a with
    | ⟨0, _⟩ => rfl
  · rw [select_apply]
    show Scalar.select (IntOp.cmpi .slt (p (ix1 b)) 0#32) _ _ = _
    rw [not_negative h]
    rfl

theorem inTable_apply (p : IVec S8 32) (h : ∀ b, (p (ix1 b)).toNat < 1024) (j : S8.Idx) : inTable (wrap p) j = 1#1 := by
  unfold inTable
  refine Host.reduce_andi_one _ _ _ _ _ rfl fun i => ?_
  obtain ⟨b, z, rfl⟩ : ∃ b z, i = ix2 b z := ⟨i 0, i 1, eq_ix2 i⟩
  show IntOp.andi (IntOp.cmpi .sge (wrap p (ix2 b z)) 0#32) (IntOp.cmpi .sle (wrap p (ix2 b z)) 1023#32) = 1#1
  rw [wrap_apply p b z (h b), at_least_zero (h b), at_most_last (h b)]
  rfl

/-- The row lookup at an entry. -/
theorem gather_row {α : Type} (T : S1024x512.Idx → α) (q : IVec S8x1 32) (b : Fin 8) (j : Fin 512) (h : (q (ix2 b 0)).toNat < 1024) :
    Host.gather gather_S1024x512_S8x1_S8x512_1_0_n_n_0_1_1512 T q (ix2 b j) = T (ix2 ⟨(q (ix2 b 0)).toNat, h⟩ j) := by
  unfold Host.gather
  congr 1
  funext a
  refine Fin.ext ?_
  show gather_S1024x512_S8x1_S8x512_1_0_n_n_0_1_1512.start (ix2 b j) q a + gather_S1024x512_S8x1_S8x512_1_0_n_n_0_1_1512.batchCoord (ix2 b j) a
      + gather_S1024x512_S8x1_S8x512_1_0_n_n_0_1_1512.offCoord (ix2 b j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x512_S8x1_S8x512_1_0_n_n_0_1_1512.startIndexMap from List.mem_singleton.mpr rfl)]
    have hsi : gather_S1024x512_S8x1_S8x512_1_0_n_n_0_1_1512.siIdx (ix2 b j) ⟨List.idxOf (0 : Fin 2) gather_S1024x512_S8x1_S8x512_1_0_n_n_0_1_1512.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, toInt_small h]
    show min ((q (ix2 b 0)).toNat : ℤ).toNat 1023 = (q (ix2 b 0)).toNat
    omega
  · rw [GatherDims.batchCoord_eq_zero _ _ _ List.not_mem_nil]
    unfold GatherDims.start
    rw [dif_neg (show ¬ (1 : Fin 2) ∈ gather_S1024x512_S8x1_S8x512_1_0_n_n_0_1_1512.startIndexMap from by decide)]
    simp only [Nat.zero_add]
    rfl

/-- The rows of a table at tokens that are row numbers. -/
theorem takeRows_apply (T : FVec F S1024x512 .f32) (p : IVec S8 32) (h : ∀ b, (p (ix1 b)).toNat < 1024) (b : Fin 8) (j : Fin 512) :
    takeRows T p (ix2 b j) = T (ix2 ⟨(p (ix1 b)).toNat, h b⟩ j) := by
  unfold takeRows
  rw [select_apply]
  have e : broadcastInDim S8x512 ![0] bcast_S8_S8x512_0 (inTable (wrap p)) (ix2 b j) = 1#1 := inTable_apply p h _
  rw [e]
  have hw := wrap_apply p b 0 (h b)
  refine (gather_row T (wrap p) b j (by rw [hw]; exact h b)).trans ?_
  congr 2
  exact Fin.ext (congrArg BitVec.toNat hw)

end Rows

section Labels

theorem wrapLabel_apply (q : IVec S8x256 32) (b : Fin 8) (t : Fin 256) (z : Fin 1) (h : (q (ix2 b t)).toNat < 1024) : wrapLabel q (ix3 b t z) = q (ix2 b t) := by
  unfold wrapLabel
  refine (broadcastInDim_apply ![0, 1] bcast_S8x256_S8x256x1_0_1 _ (ix3 b t z) (ix2 b t) fun a => ?_).trans ?_
  · match a with
    | ⟨0, _⟩ => rfl
    | ⟨1, _⟩ => rfl
  · rw [select_apply]
    show Scalar.select (IntOp.cmpi .slt (q (ix2 b t)) 0#32) _ _ = _
    rw [not_negative h]
    rfl

theorem inLabels_apply (q : IVec S8x256 32) (h : ∀ b t, (q (ix2 b t)).toNat < 1024) (j : S8x256.Idx) : inLabels (wrapLabel q) j = 1#1 := by
  unfold inLabels
  refine Host.reduce_andi_one _ _ _ _ _ rfl fun i => ?_
  obtain ⟨b, t, z, rfl⟩ : ∃ b t z, i = ix3 b t z := ⟨i 0, i 1, i 2, eq_ix3 i⟩
  show IntOp.andi (IntOp.cmpi .sge (wrapLabel q (ix3 b t z)) 0#32) (IntOp.cmpi .sle (wrapLabel q (ix3 b t z)) 1023#32) = 1#1
  rw [wrapLabel_apply q b t z (h b t), at_least_zero (h b t), at_most_last (h b t)]
  rfl

/-- The labels of tokens that are row numbers. -/
theorem takeLabels_apply (T : IVec S1024 32) (q : IVec S8x256 32) (h : ∀ b t, (q (ix2 b t)).toNat < 1024) (b : Fin 8) (t : Fin 256) :
    takeLabels T q (ix2 b t) = T (ix1 ⟨(q (ix2 b t)).toNat, h b t⟩) := by
  unfold takeLabels
  rw [select_apply, inLabels_apply q h]
  have hw : wrapLabel q (takeIdx (ix2 b t)) = q (ix2 b t) := by
    refine Eq.trans (congrArg (wrapLabel q) ?_) (wrapLabel_apply q b t 0 (h b t))
    funext a
    match a with
    | ⟨0, _⟩ => rfl
    | ⟨1, _⟩ => rfl
    | ⟨2, _⟩ => rfl
  refine (gather_take_apply (N := 1024) (R := 8) (C := 256) (by decide) gather_S1024_S8x256x1_S8x256_n_0_n_n_0_2_1.wf T (wrapLabel q) (ix2 b t)).trans ?_
  congr 2
  refine Fin.ext ?_
  show min (wrapLabel q (takeIdx (ix2 b t))).toInt.toNat (1024 - 1) = (q (ix2 b t)).toNat
  rw [hw, toInt_small (h b t)]
  have := h b t
  omega

end Labels

end Cert.Reference

end
-- ==== Proof.RefRead.lean ====
/-
  The reference's remaining layout operations read at an entry.
-/
module

public import proofs.«01_k».proof.Proof.RefTake
public import Idealize.ShloMosaic.Lib.KernelVsHost
public import Idealize.ShloMosaic.Lib.Pipeline.Value

@[expose] public section

noncomputable section

namespace Cert.Reference

open Cert.ReferenceIdeal Cert.ReferenceIdeal.Gen
open Idealize.ShloMosaic Idealize.ShloMosaic.ValueIdx

variable {F : FTy → Type} [FloatOps F]

/-- A frame number as a word read signed. -/
theorem toInt_frame {w : BitVec 32} {k : ℕ} (hw : w = BitVec.ofNat 32 k) (hk : k < 256) : w.toInt = k := by
  rw [hw]
  exact toInt_ofNat_of_lt (by omega)

/-- Frame `k` of the projected encoder output at an entry. -/
theorem encRow_apply (E : FVec F S256x8x512 .f32) (i : IVec S_ 32) (k : Fin 256) (hi : i (Shape.Idx.first h_S_) = BitVec.ofNat 32 k.val) (b : Fin 8) (j : Fin 512) :
    encRow E i (ix2 b j) = E (ix3 k b j) := by
  unfold encRow
  rw [shapeCast_1ab_ab_apply]
  have hs : S256x8x512.Slices ![k.val, 0, 0] S1x8x512 := ⟨rfl, fun a => by
    match a with
    | ⟨0, _⟩ => show k.val + 1 ≤ 256; omega
    | ⟨1, _⟩ => show 0 + 8 ≤ 8; omega
    | ⟨2, _⟩ => show 0 + 512 ≤ 512; omega⟩
  rw [Host.dynamicSlice_eq_extractStridedSlice S1x8x512 E _ ![k.val, 0, 0] sliceFits_S256x8x512_S1x8x512 hs (fun a => by
    match a with
    | ⟨0, _⟩ => exact toInt_frame hi k.isLt
    | ⟨1, _⟩ => rfl
    | ⟨2, _⟩ => rfl)]
  refine extractStridedSlice_apply _ _ _ _ _ fun a => ?_
  match a with
  | ⟨0, _⟩ => rfl
  | ⟨1, _⟩ => show b.val = 0 + b.val; omega
  | ⟨2, _⟩ => show j.val = 0 + j.val; omega

/-- The projected encoder output, frames first, at an entry. -/
theorem projected_apply (X : FVec F S8x256x512 .f32) (W : FVec F S512x512 .f32) (k : Fin 256) (b : Fin 8) (j : Fin 512) :
    projected X W (ix3 k b j) = Host.dotGeneral dot_S8x256x512_S512x512_S8x256x512_2_0_01_1_n_n none X W (ix3 b k j) := by
  unfold projected
  exact transpose_apply _ _ _ _ _ fun c => match c with | ⟨0, _⟩ => rfl | ⟨1, _⟩ => rfl | ⟨2, _⟩ => rfl

/-- The table of tokens with one row set, at an entry. -/
theorem putRow_apply (H : IVec S256x8 32) (p : IVec S8 32) (i : IVec S_ 32) (k : Fin 256) (hi : i (Shape.Idx.first h_S_) = BitVec.ofNat 32 k.val) (t : Fin 256) (b : Fin 8) :
    putRow H p i (ix2 t b) = if t = k then p (ix1 b) else H (ix2 t b) := by
  unfold putRow
  have hs : S256x8.Slices ![k.val, 0] S1x8 := ⟨rfl, fun a => by
    match a with
    | ⟨0, _⟩ => show k.val + 1 ≤ 256; omega
    | ⟨1, _⟩ => show 0 + 8 ≤ 8; omega⟩
  rw [Host.dynamicUpdateSlice_eq_updateSlice H _ _ updateFits_S256x8_S1x8 ![k.val, 0] (fun a => by
    match a with
    | ⟨0, _⟩ =>
      show (min (max (i (Shape.Idx.first h_S_)).toInt 0) ((256 - 1 : ℕ) : ℤ)).toNat = k.val
      rw [toInt_frame hi k.isLt]
      omega
    | ⟨1, _⟩ => rfl) hs]
  unfold updateSlice
  by_cases h : t = k
  · rw [if_pos h, dif_pos (fun a => by
      match a with
      | ⟨0, _⟩ => show k.val ≤ t.val ∧ t.val < k.val + 1; rw [h]; omega
      | ⟨1, _⟩ => show 0 ≤ b.val ∧ b.val < 0 + 8; omega)]
    refine broadcastInDim_apply ![1] bcast_S8_S1x8_1 p _ (ix1 b) fun a => ?_
    match a with
    | ⟨0, _⟩ => rfl
  · rw [if_neg h, dif_neg]
    intro hin
    have h0 : k.val ≤ t.val ∧ t.val < k.val + 1 := hin 0
    exact h (Fin.ext (by omega))

/-- The masked table of tokens at an entry. -/
theorem masked_apply (H : IVec S256x8 32) (ln : IVec S8 32) (b : Fin 8) (t : Fin 256) :
    masked H ln (ix2 b t) = Scalar.select (IntOp.cmpi .slt (BitVec.ofNat 32 t.val) (ln (ix1 b))) (H (ix2 t b)) 0#32 := by
  unfold masked
  rw [select_apply, transpose_ix2_apply]
  have e1 : (broadcastInDim S8x256 ![0, 1] bcast_S1x256_S8x256_0_1 (broadcastInDim S1x256 ![1] bcast_S256_S1x256_1 (iotaInDim S256 32 0))) (ix2 b t) = BitVec.ofNat 32 t.val := by
    rw [broadcastInDim_oneRow_apply]
    exact broadcastInDim_apply ![1] bcast_S256_S1x256_1 (iotaInDim S256 32 0) (ix2 0 t) (ix1 t) fun a => match a with | ⟨0, _⟩ => rfl
  have e2 : (broadcastInDim S8x256 ![0, 1] bcast_S8x1_S8x256_0_1 (broadcastInDim S8x1 ![0] bcast_S8_S8x1_0 ln)) (ix2 b t) = ln (ix1 b) := by
    refine (broadcastInDim_apply ![0, 1] bcast_S8x1_S8x256_0_1 _ (ix2 b t) (ix2 b 0) fun a => match a with | ⟨0, _⟩ => rfl | ⟨1, _⟩ => rfl).trans ?_
    exact broadcastInDim_apply ![0] bcast_S8_S8x1_0 ln (ix2 b 0) (ix1 b) fun a => match a with | ⟨0, _⟩ => rfl
  show Scalar.select (IntOp.cmpi .slt ((broadcastInDim S8x256 ![0, 1] bcast_S1x256_S8x256_0_1 (broadcastInDim S1x256 ![1] bcast_S256_S1x256_1 (iotaInDim S256 32 0))) (ix2 b t))
    ((broadcastInDim S8x256 ![0, 1] bcast_S8x1_S8x256_0_1 (broadcastInDim S8x1 ![0] bcast_S8_S8x1_0 ln)) (ix2 b t))) _ _ = _
  rw [e1, e2]
  rfl

/-- A mask over the samples chooses whole rows. -/
theorem pick_apply (c : IVec S8 1) (x y : FVec F S8x512 .f32) (b : Fin 8) (j : Fin 512) :
    pick c x y (ix2 b j) = Scalar.select (c (ix1 b)) (x (ix2 b j)) (y (ix2 b j)) := by
  unfold pick
  rw [select_apply]
  congr 1
  refine (broadcastInDim_apply ![0, 1] bcast_S8x1_S8x512_0_1 _ (ix2 b j) (ix2 b 0) fun a => match a with | ⟨0, _⟩ => rfl | ⟨1, _⟩ => rfl).trans ?_
  exact broadcastInDim_apply ![0] bcast_S8_S8x1_0 c (ix2 b 0) (ix1 b) fun a => match a with | ⟨0, _⟩ => rfl

/-- A token is the blank when it is zero. -/
theorem blank_apply (p : IVec S8 32) (b : Fin 8) : blank p (ix1 b) = IntOp.cmpi .eq (p (ix1 b)) 0#32 := rfl

/-- A row laid along every row, at an entry. -/
theorem rows2048_apply (v : FVec F S2048 .f32) (b : Fin 8) (j : Fin 2048) : rows2048 v (ix2 b j) = v (ix1 j) := by
  unfold rows2048
  rw [broadcastInDim_oneRow_apply]
  exact broadcastInDim_apply ![1] bcast_S2048_S1x2048_1 v (ix2 0 j) (ix1 j) fun a => match a with | ⟨0, _⟩ => rfl
theorem rows512_apply (v : FVec F S512 .f32) (b : Fin 8) (j : Fin 512) : rows512 v (ix2 b j) = v (ix1 j) := by
  unfold rows512
  rw [broadcastInDim_oneRow_apply]
  exact broadcastInDim_apply ![1] bcast_S512_S1x512_1 v (ix2 0 j) (ix1 j) fun a => match a with | ⟨0, _⟩ => rfl
theorem rows1024_apply (v : FVec F S1024 .f32) (b : Fin 8) (j : Fin 1024) : rows1024 v (ix2 b j) = v (ix1 j) := by
  unfold rows1024
  rw [broadcastInDim_oneRow_apply]
  exact broadcastInDim_apply ![1] bcast_S1024_S1x1024_1 v (ix2 0 j) (ix1 j) fun a => match a with | ⟨0, _⟩ => rfl

/-- The two halves of the cached state at an entry. -/
theorem half0_apply (C : FVec F S2x8x512 .f32) (b : Fin 8) (j : Fin 512) : half0 C (ix2 b j) = C (ix3 0 b j) := by
  unfold half0
  rw [shapeCast_1ab_ab_apply]
  refine extractStridedSlice_apply _ _ _ _ _ fun a => ?_
  match a with
  | ⟨0, _⟩ => rfl
  | ⟨1, _⟩ => show b.val = 0 + b.val; omega
  | ⟨2, _⟩ => show j.val = 0 + j.val; omega
theorem half1_apply (C : FVec F S2x8x512 .f32) (b : Fin 8) (j : Fin 512) : half1 C (ix2 b j) = C (ix3 1 b j) := by
  unfold half1
  rw [shapeCast_1ab_ab_apply]
  refine extractStridedSlice_apply _ _ _ _ _ fun a => ?_
  match a with
  | ⟨0, _⟩ => rfl
  | ⟨1, _⟩ => show b.val = 0 + b.val; omega
  | ⟨2, _⟩ => show j.val = 0 + j.val; omega

/-- Hidden state above cell state, at an entry. -/
theorem stacked_apply (h c : FVec F S8x512 .f32) (a : Fin 2) (b : Fin 8) (j : Fin 512) :
    stacked h c (ix3 a b j) = if a.val = 0 then h (ix2 b j) else c (ix2 b j) := by
  have e : ∀ x : FVec F S8x512 .f32, broadcastInDim S1x8x512 ![1, 2] bcast_S8x512_S1x8x512_1_2 x (ix3 0 b j) = x (ix2 b j) := fun x =>
    broadcastInDim_apply ![1, 2] bcast_S8x512_S1x8x512_1_2 x (ix3 0 b j) (ix2 b j) fun a => match a with | ⟨0, _⟩ => rfl | ⟨1, _⟩ => rfl
  unfold stacked
  match a with
  | ⟨0, _⟩ =>
    refine (concatenate_pair_apply_left 0 _ _ concatenates_S1x8x512_S1x8x512_S2x8x512_d0 _ rfl (ix3 0 b j) fun d => ?_).trans (e h)
    match d with
    | ⟨0, _⟩ => rfl
    | ⟨1, _⟩ => rfl
    | ⟨2, _⟩ => rfl
  | ⟨1, _⟩ =>
    refine (concatenate_pair_apply_right 0 _ _ concatenates_S1x8x512_S1x8x512_S2x8x512_d0 _ rfl rfl (ix3 0 b j) (fun d hd => ?_) rfl).trans (e c)
    match d with
    | ⟨0, _⟩ => exact absurd rfl hd
    | ⟨1, _⟩ => rfl
    | ⟨2, _⟩ => rfl

end Cert.Reference

end
-- ==== Proof.Products.lean ====
/-
  The matrix products of the kernel and of the reference read at an entry, at exact arithmetic: the sum over the contracted
  coordinate.
-/
module

public import proofs.«01_k».proof.Proof.Token
public import proofs.«01_k».proof.Proof.RefRead
public import Idealize.ShloMosaic.Lib.StackMember

@[expose] public section

noncomputable section

namespace Cert.Agree

open Cert.KernelIdeal Cert.KernelIdeal.Gen
open Idealize.ShloMosaic Idealize.ShloMosaic.TcCoe
open Idealize.ShloMosaic.ValueIdx Idealize.ShloMosaic.StackMember

/-- The kernel's product with a zero start is the host's product, also after a reshape to the same shape. -/
theorem same_product {sl sr so : Shape} (d : DotDims sl sr so) (A : FVec Ideal sl .f32) (B : FVec Ideal sr .f32) (h : so.ShapeCasts so) :
    shapeCast so (matmul d none A B (constant so .f32 0x00000000#32)) h = Host.dotGeneral d none A B := by
  rw [shapeCast_self, matmul_zero_eq_dotGeneral]

/-- The table of input gates at row `r`. -/
theorem table_apply (T : Vec Ideal S1024x512 .f32) (W : Vec Ideal S512x2048 .f32) (r : Fin 1024) (j : Fin 2048) :
    k0_pay22 T W (ix2 r j) = ∑ k : Fin 512, (T (ix2 r k) : EReal) * W (ix2 k j) := by
  unfold k0_pay22
  rw [same_product]
  exact dotGeneral_plain_apply none T W r j

/-- The input gates of the reference at a sample. -/
theorem input_apply (e : FVec Ideal S8x512 .f32) (W : FVec Ideal S512x2048 .f32) (b : Fin 8) (j : Fin 2048) :
    Host.dotGeneral Cert.ReferenceIdeal.dot_S8x512_S512x2048_S8x2048_1_0_0_1_n_n none e W (ix2 b j) = ∑ k : Fin 512, (e (ix2 b k) : EReal) * W (ix2 k j) :=
  dotGeneral_plain_apply none e W b j

/-- The kernel's projected encoder output at a frame. -/
theorem encoded_apply (X : Vec Ideal S8x256x512 .f32) (W : Vec Ideal S512x512 .f32) (b : Fin 8) (t : Fin 256) (j : Fin 512) :
    k0_pay21 X W (ix3 b t j) = ∑ k : Fin 512, (X (ix3 b t k) : EReal) * W (ix2 k j) := by
  have hr : b.val * 256 + t.val < 2048 := by omega
  have hX : ∀ k : Fin 512, shapeCast S2048x512 X shapeCasts_S8x256x512_S2048x512 (ix2 ⟨b.val * 256 + t.val, hr⟩ k) = X (ix3 b t k) := fun k => by
    refine shapeCast_apply X _ _ (ix3 b t k) ?_
    rw [Shape.rowMajor_val_three, Shape.rowMajor_val_two]
    rfl
  unfold k0_pay21
  rw [shapeCast_self, matmul_zero_eq_dotGeneral]
  refine (shapeCast_apply _ shapeCasts_S2048x512_S8x256x512 (ix3 b t j) (ix2 ⟨b.val * 256 + t.val, hr⟩ j) ?_).trans ?_
  · rw [Shape.rowMajor_val_three, Shape.rowMajor_val_two]
    rfl
  · refine (dotGeneral_plain_apply none _ W ⟨b.val * 256 + t.val, hr⟩ j).trans ?_
    exact Finset.sum_congr rfl fun k _ => congrArg (fun z : EReal => z * W (ix2 k j)) (hX k)

/-- The reference's projected encoder output at a frame. -/
theorem projection_apply (X : FVec Ideal S8x256x512 .f32) (W : FVec Ideal S512x512 .f32) (t : Fin 256) (b : Fin 8) (j : Fin 512) :
    Cert.Reference.projected X W (ix3 t b j) = ∑ k : Fin 512, (X (ix3 b t k) : EReal) * W (ix2 k j) := by
  refine (Cert.Reference.projected_apply X W t b j).trans ?_
  show FloatOps.dotGeneral Cert.ReferenceIdeal.dot_S8x256x512_S512x512_S8x256x512_2_0_01_1_n_n none _ X W (ix3 b t j) = _
  rw [Ideal.dotGeneral_apply, ← Equiv.sum_comp (contrEquiv1 Cert.ReferenceIdeal.dot_S8x256x512_S512x512_S8x256x512_2_0_01_1_n_n 512 rfl rfl).symm]
  refine Finset.sum_congr rfl fun k _ => ?_
  have hk := contrEquiv1_symm_val Cert.ReferenceIdeal.dot_S8x256x512_S512x512_S8x256x512_2_0_01_1_n_n 512 rfl rfl k
  have el : Cert.ReferenceIdeal.dot_S8x256x512_S512x512_S8x256x512_2_0_01_1_n_n.lhsIdx (ix3 b t j) ((contrEquiv1 _ 512 rfl rfl).symm k) = ix3 b t k := by
    funext a; apply Fin.ext
    match a with
    | ⟨0, _⟩ => rfl
    | ⟨1, _⟩ => rfl
    | ⟨2, _⟩ => exact hk
  have er : Cert.ReferenceIdeal.dot_S8x256x512_S512x512_S8x256x512_2_0_01_1_n_n.rhsIdx (ix3 b t j) ((contrEquiv1 _ 512 rfl rfl).symm k) = ix2 k j := by
    funext a; apply Fin.ext
    match a with
    | ⟨0, _⟩ => exact hk
    | ⟨1, _⟩ => rfl
  rw [el, er]

/-- So the projected encoder outputs agree. -/
theorem encoded_eq (X : Vec Ideal S8x256x512 .f32) (W : Vec Ideal S512x512 .f32) (b : Fin 8) (t : Fin 256) (j : Fin 512) :
    k0_pay21 X W (ix3 b t j) = Cert.Reference.projected (F := Ideal) X W (ix3 t b j) :=
  (encoded_apply X W b t j).trans (projection_apply X W t b j).symm

end Cert.Agree

end
-- ==== Proof.Read.lean ====
/-
  One trip of the kernel read against the reference's operations, at exact arithmetic: the gate sums, the cell and hidden
  states, the logits, the kept rows and the labels.
-/
module

public import proofs.«01_k».proof.Proof.Products
public import Idealize.ShloMosaic.Lib.Pipeline.ValueKit.Tiles

@[expose] public section

noncomputable section

namespace Cert.Agree

open Cert.KernelIdeal Cert.KernelIdeal.Gen Cert.Decode
open Idealize.ShloMosaic Idealize.ShloMosaic.TcCoe
open Idealize.ShloMosaic.ValueIdx Idealize.ShloMosaic.StackMember
open Cert.Pick

/-- A word as a row number. -/
abbrev rowOf (w : BitVec 32) : Fin 1024 := ⟨w.toNat % 1024, Nat.mod_lt _ (by decide)⟩

theorem piece (E : Vec Ideal S1024x2048 .f32) (p : IVec S8x1 32) (b K : Fin 8) (j : Fin 2048) :
    PieceAt (t := S8x2048) 0 (ix2 b j) (E (ix2 (rowOf (p (ix2 b 0))) j)) S1x2048 (eihRow E (tokAt p K)) K.val := by
  intro hk hr i h0 hi
  obtain rfl : b = K := Fin.ext hk
  have e : i 1 = j := Fin.ext (hi 1 (by decide))
  unfold eihRow tokAt
  rw [e]

/-- The gate sums before the bias: the table's row at each sample's token, and the carried recurrent gates. -/
theorem gates_apply (E : Vec Ideal S1024x2048 .f32) (s : St Ideal) (b : Fin 8) (j : Fin 2048) :
    gates E s (ix2 b j) = (E (ix2 (rowOf (s.2.2.1 (ix2 b 0))) j) : EReal) + s.2.2.2.1 (ix2 b j) := by
  unfold gates k0_pay3
  refine (addf_apply _ _ _).trans (congrArg (fun z : EReal => z + s.2.2.2.1 (ix2 b j)) ?_)
  exact concatenate_unit_eq 0 _ _ (ix2 b j) _ rfl ⟨piece E _ b 0 j, piece E _ b 1 j, piece E _ b 2 j, piece E _ b 3 j, piece E _ b 4 j, piece E _ b 5 j,
    piece E _ b 6 j, piece E _ b 7 j, trivial⟩

/-- The gate sums with the bias are the reference's, when the tokens and the recurrent gates agree. -/
theorem gateSums_eq (T : FVec Ideal S1024x512 .f32) (Wi Wh : FVec Ideal S512x2048 .f32) (bl : FVec Ideal S2048 .f32) (s : St Ideal)
    (h : FVec Ideal S8x512 .f32) (p : IVec S8 32) (hp : ∀ b, s.2.2.1 (ix2 b 0) = p (ix1 b)) (hr : ∀ b, (p (ix1 b)).toNat < 1024)
    (hg : s.2.2.2.1 = (Host.dotGeneral dot_S8x512_S512x2048_S8x2048_1_0_0_1_n_n none h Wh : FVec Ideal S8x2048 .f32)) :
    k0_pay5 (gates (k0_pay22 T Wi) s) (k0_pay4 (shapeCast S1x2048 bl shapeCasts_S2048_S1x2048))
      = Cert.Reference.gateSums (Cert.Reference.takeRows (F := Ideal) T p) Wi h Wh bl := by
  funext i
  obtain ⟨b, j, rfl⟩ : ∃ b j, i = ix2 b j := ⟨i 0, i 1, eq_ix2 i⟩
  unfold k0_pay5 k0_pay4 Cert.Reference.gateSums
  rw [addf_apply, broadcastTo_1b_ab_apply, shapeCast_a_1a_apply, gates_apply, hg]
  refine Eq.trans ?_ (addf_apply _ _ _).symm
  refine Eq.trans ?_ (congrArg₂ (fun x y : EReal => x + y) (addf_apply _ _ _).symm (Cert.Reference.rows2048_apply bl b j).symm)
  refine congrArg (fun x : EReal => x + _ + _) ?_
  rw [table_apply]
  refine Eq.trans ?_ (input_apply _ Wi b j).symm
  refine Finset.sum_congr rfl fun k _ => ?_
  rw [Cert.Reference.takeRows_apply (F := Ideal) T p hr b k]
  refine congrArg (fun r => (T (ix2 r k) : EReal) * Wi (ix2 k j)) (Fin.ext ?_)
  show (s.2.2.1 (ix2 b 0)).toNat % 1024 = (p (ix1 b)).toNat
  rw [hp b, Nat.mod_eq_of_lt (hr b)]

/-- The logistic function is the reference's spelt-out one. -/
theorem logistic_eq (x : FVec Ideal S8x512 .f32) : logistic x = Cert.Reference.sigm (F := Ideal) x := by
  funext i
  show Ideal.logistic (x i) = Ideal.div (Ideal.ofBits .f32 0x3F800000#32) (Ideal.ofBits .f32 0x3F800000#32 + Ideal.exp (-(x i : EReal)))
  rw [Ideal.ofBits_one_f32]
  rfl

/-- The new cell state. -/
theorem cell_eq (c : FVec Ideal S8x512 .f32) (g v : FVec Ideal S8x2048 .f32) : k0_pay6 c g v = Cert.Reference.cell (F := Ideal) (k0_pay5 g v) c := by
  unfold k0_pay6 Cert.Reference.cell
  dsimp only
  rw [logistic_eq, logistic_eq]
  rfl

/-- The new hidden state. -/
theorem hidden_eq (c : FVec Ideal S8x512 .f32) (g v : FVec Ideal S8x2048 .f32) : k0_pay7 c g v = Cert.Reference.hidden (F := Ideal) (k0_pay5 g v) c := by
  unfold k0_pay7 Cert.Reference.hidden
  dsimp only
  rw [logistic_eq, cell_eq]
  rfl

/-- A frame of the kernel's projected encoder output. -/
theorem frame_apply (E : Vec Ideal S8x256x512 .f32) (k : Fin k0_t1_loop.trips) (t : Fin 256) (ht : t.val = k.val) (b : Fin 8) (j : Fin 512) :
    shapeCast S8x512 (encAt E k) shapeCasts_S8x1x512_S8x512 (ix2 b j) = E (ix3 b t j) := by
  refine (shapeCast_apply (encAt E k) shapeCasts_S8x1x512_S8x512 (ix2 b j) (ix3 b (0 : Fin 1) j) ?_).trans ?_
  · rw [Shape.rowMajor_val_three, Shape.rowMajor_val_two]
    show (b.val * 1 + 0) * 512 + j.val = b.val * 512 + j.val
    omega
  · refine congrArg E (funext fun a => Fin.ext ?_)
    match a with
    | ⟨0, _⟩ => show 0 + 1 * b.val = b.val; omega
    | ⟨1, _⟩ =>
      show (Scf.iv 0#32 1#32 k.val).toNat + 1 * 0 = t.val
      have h := t.isLt
      rw [show Scf.iv 0#32 1#32 k.val = BitVec.ofNat 32 k.val by simp [Scf.iv], BitVec.toNat_ofNat, ht, Nat.mod_eq_of_lt (by omega)]
      omega
    | ⟨2, _⟩ => show 0 + 1 * j.val = j.val; omega

/-- The logits of a trip. -/
theorem logits_eq (E : Vec Ideal S8x256x512 .f32) (k : Fin k0_t1_loop.trips) (t : Fin 256) (ht : t.val = k.val) (e : FVec Ideal S8x512 .f32)
    (he : ∀ b j, e (ix2 b j) = E (ix3 b t j)) (c : FVec Ideal S8x512 .f32) (g v : FVec Ideal S8x2048 .f32) (Wp : FVec Ideal S512x512 .f32)
    (bj : FVec Ideal S512 .f32) (Wo : FVec Ideal S512x1024 .f32) (bo : FVec Ideal S1024 .f32) (b : Fin 8) :
    logitRow (shapeCast S1x1024 bo shapeCasts_S1024_S1x1024)
        (k0_pay9 (shapeCast S1x512 bj shapeCasts_S512_S1x512) (encAt E k) (k0_pay8 c g v Wp) Wo) b
      = fun i => (Cert.Reference.logits (F := Ideal) e (Cert.Reference.hidden (k0_pay5 g v) c) Wp bj Wo bo (ix2 b i) : EReal) := by
  have hj : addf (addf (shapeCast S8x512 (encAt E k) shapeCasts_S8x1x512_S8x512) (k0_pay8 c g v Wp))
      (broadcastTo S8x512 (shapeCast S1x512 bj shapeCasts_S512_S1x512) broadcasts_S1x512_S8x512)
      = addf (addf e (Host.dotGeneral Cert.ReferenceIdeal.dot_S8x512_S512x512_S8x512_1_0_0_1_n_n none (Cert.Reference.hidden (F := Ideal) (k0_pay5 g v) c) Wp))
        (Cert.Reference.rows512 bj) := by
    unfold k0_pay8
    dsimp only
    rw [same_product, hidden_eq]
    funext i
    obtain ⟨b, j, rfl⟩ : ∃ b j, i = ix2 b j := ⟨i 0, i 1, eq_ix2 i⟩
    rw [addf_apply, addf_apply, frame_apply E k t ht, broadcastTo_1b_ab_apply, shapeCast_a_1a_apply, ← he b j]
    refine Eq.trans ?_ (addf_apply _ _ _).symm
    exact congrArg₂ (fun x y : EReal => x + y) (addf_apply _ _ _).symm (Cert.Reference.rows512_apply bj b j).symm
  funext i
  unfold logitRow k0_pay9 Cert.Reference.logits
  rw [same_product, hj, shapeCast_a_1a_apply]
  refine Eq.trans ?_ (addf_apply _ _ _).symm
  exact congrArg (fun y : EReal => _ + y) (Cert.Reference.rows1024_apply bo b i).symm

/-- The rows kept where the trip's token is the blank. -/
theorem kept_eq (bo : FVec Ideal S1x1024 .f32) (L : Vec Ideal S8x1024 .f32) (T : IVec S8 32)
    (hT : ∀ b, T (ix1 b) = BitVec.ofNat 32 (best (logitRow bo L b)).val) (b : Fin 8) (z : Fin 1) :
    k0_pay14 cols (k0_pay10 bo L) k0_pay11 (ix2 b z) = Cert.Reference.blank T (ix1 b) := by
  unfold k0_pay14
  rw [show ∀ x y : IVec S8x1 32, cmpi .eq x y (ix2 b z) = IntOp.cmpi .eq (x (ix2 b z)) (y (ix2 b z)) from fun _ _ => rfl, pay12_apply, Cert.Reference.blank_apply, hT b]
  rfl

theorem hiddenKept_eq (bo : FVec Ideal S1x1024 .f32) (L : Vec Ideal S8x1024 .f32) (T : IVec S8 32)
    (hT : ∀ b, T (ix1 b) = BitVec.ofNat 32 (best (logitRow bo L b)).val) (x y : FVec Ideal S8x512 .f32) :
    k0_pay15 cols x y (k0_pay10 bo L) k0_pay11 = Cert.Reference.pick (F := Ideal) (Cert.Reference.blank T) x y := by
  funext i
  obtain ⟨b, j, rfl⟩ : ∃ b j, i = ix2 b j := ⟨i 0, i 1, eq_ix2 i⟩
  refine Eq.trans ?_ (Cert.Reference.pick_apply _ x y b j).symm
  unfold k0_pay15
  rw [shapeCast_self, select_apply, broadcast_col, kept_eq bo L T hT]

theorem cellKept_eq (bo : FVec Ideal S1x1024 .f32) (L : Vec Ideal S8x1024 .f32) (T : IVec S8 32)
    (hT : ∀ b, T (ix1 b) = BitVec.ofNat 32 (best (logitRow bo L b)).val) (x y : FVec Ideal S8x512 .f32) :
    k0_pay16 cols x y (k0_pay10 bo L) k0_pay11 = Cert.Reference.pick (F := Ideal) (Cert.Reference.blank T) x y :=
  hiddenKept_eq bo L T hT x y

/-- The carried recurrent gates stay the product of the carried hidden state. -/
theorem recurrentKept_eq (bo : FVec Ideal S1x1024 .f32) (L : Vec Ideal S8x1024 .f32) (T : IVec S8 32)
    (hT : ∀ b, T (ix1 b) = BitVec.ofNat 32 (best (logitRow bo L b)).val) (x y : FVec Ideal S8x512 .f32) (Wh : FVec Ideal S512x2048 .f32) :
    k0_pay18 cols (Host.dotGeneral dot_S8x512_S512x2048_S8x2048_1_0_0_1_n_n none x Wh : FVec Ideal S8x2048 .f32) (k0_pay10 bo L) k0_pay11 (k0_pay13 y Wh)
      = (Host.dotGeneral dot_S8x512_S512x2048_S8x2048_1_0_0_1_n_n none (Cert.Reference.pick (F := Ideal) (Cert.Reference.blank T) x y : FVec Ideal S8x512 .f32) Wh : FVec Ideal S8x2048 .f32) := by
  funext i
  obtain ⟨b, j, rfl⟩ : ∃ b j, i = ix2 b j := ⟨i 0, i 1, eq_ix2 i⟩
  unfold k0_pay18 k0_pay13
  dsimp only
  rw [same_product, shapeCast_self, select_apply, broadcast_col, kept_eq bo L T hT]
  have hx : ∀ x : FVec Ideal S8x512 .f32, (Host.dotGeneral dot_S8x512_S512x2048_S8x2048_1_0_0_1_n_n none x Wh : FVec Ideal S8x2048 .f32) (ix2 b j)
      = ∑ k : Fin 512, (x (ix2 b k) : EReal) * Wh (ix2 k j) := fun x => dotGeneral_plain_apply none x Wh b j
  rw [hx, hx, hx]
  rcases (by decide : ∀ w : BitVec 1, w = 0#1 ∨ w = 1#1) (Cert.Reference.blank T (ix1 b)) with h | h
  · have hp : ∀ k, Cert.Reference.pick (F := Ideal) (Cert.Reference.blank T) x y (ix2 b k) = y (ix2 b k) := fun k => by
      rw [Cert.Reference.pick_apply, h]; rfl
    rw [h]
    show (∑ k : Fin 512, (y (ix2 b k) : EReal) * Wh (ix2 k j)) = _
    exact (Finset.sum_congr rfl fun k _ => congrArg (fun z : EReal => z * Wh (ix2 k j)) (hp k)).symm
  · have hp : ∀ k, Cert.Reference.pick (F := Ideal) (Cert.Reference.blank T) x y (ix2 b k) = x (ix2 b k) := fun k => by
      rw [Cert.Reference.pick_apply, h]; rfl
    rw [h]
    show (∑ k : Fin 512, (x (ix2 b k) : EReal) * Wh (ix2 k j)) = _
    exact (Finset.sum_congr rfl fun k _ => congrArg (fun z : EReal => z * Wh (ix2 k j)) (hp k)).symm

/-- A sum of words of which one position alone is kept is the word kept. -/
theorem fold_kept (q : Fin 1024) (v : BitVec 32) (f : Fin 1024 → BitVec 32) (hf : ∀ k, f k = if k = q then v else 0#32) (S : Finset (Fin 1024)) :
    S.fold IntOp.addi 0#32 f = if q ∈ S then v else 0#32 := by
  induction S using Finset.cons_induction with
  | empty => rfl
  | cons a S ha ih =>
    rw [Finset.fold_cons, ih, hf]
    by_cases h : a = q
    · subst h
      rw [if_pos rfl, if_neg ha, if_pos (Finset.mem_cons_self a S)]
      exact BitVec.add_zero v
    · rw [if_neg h]
      by_cases hq : q ∈ S
      · rw [if_pos hq, if_pos (Finset.mem_cons_of_mem hq)]
        exact BitVec.zero_add v
      · rw [if_neg hq, if_neg (fun hm => (Finset.mem_cons.mp hm).elim (fun e => h e.symm) hq)]
        exact BitVec.zero_add 0#32

/-- The label of a row number. -/
def labelAt (lab : IVec S1024 32) (w : BitVec 32) : BitVec 32 := lab (ix1 (rowOf w))

/-- The one-hot sum along the labels is the label at the row number. -/
theorem oneHot_apply (lab : IVec S1024 32) (q : IVec S8x1 32) (b : Fin 8) (hq : (q (ix2 b 0)).toNat < 1024) :
    multiReductionI .add [1] S8 (select (cmpi .eq cols (broadcastTo S8x1024 q broadcasts_S8x1_S8x1024))
      (broadcastTo S8x1024 (shapeCast S1x1024 lab shapeCasts_S1024_S1x1024) broadcasts_S1x1024_S8x1024) (broadcast S8x1024 0#32)) 0#32 reduces_S8x1024_S8 rfl (ix1 b)
      = labelAt lab (q (ix2 b 0)) := by
  refine (multiReductionI_eq_fold .add _ _ reduces_S8x1024_S8 rfl (ix1 b)).trans ?_
  refine (reduces_S8x1024_S8.fold_filter_drop_single IntOp.addi _ _ (ix1 b)).trans ?_
  refine (fold_kept (rowOf (q (ix2 b 0))) (labelAt lab (q (ix2 b 0))) _ (fun k => ?_) _).trans (if_pos (Finset.mem_univ _))
  show select _ _ _ (reduces_S8x1024_S8.lift (ix1 b) k) = _
  rw [lift_ix2, select_apply, show ∀ x y : IVec S8x1024 32, cmpi .eq x y (ix2 b k) = IntOp.cmpi .eq (x (ix2 b k)) (y (ix2 b k)) from fun _ _ => rfl, cols_apply,
    broadcast_col, broadcastTo_1b_ab_apply, shapeCast_a_1a_apply]
  have hk := k.isLt
  by_cases h : k = rowOf (q (ix2 b 0))
  · rw [if_pos h]
    have e : BitVec.ofNat 32 k.val = q (ix2 b 0) := BitVec.eq_of_toNat_eq (by
      rw [BitVec.toNat_ofNat, h]
      show (q (ix2 b 0)).toNat % 1024 % 2 ^ 32 = _
      omega)
    rw [e, h]
    simp [Scalar.select, IntOp.cmpi, labelAt]
  · rw [if_neg h]
    have e : BitVec.ofNat 32 k.val ≠ q (ix2 b 0) := fun e => h (Fin.ext (by
      have e' := congrArg BitVec.toNat e
      rw [BitVec.toNat_ofNat] at e'
      show k.val = (q (ix2 b 0)).toNat % 1024
      omega))
    simp [Scalar.select, IntOp.cmpi, broadcast, beq_eq_false_iff_ne.mpr e]

set_option maxRecDepth 65536 in
/-- A trip's labels: at its own frame the label of the token, or of zero past the sample's length; elsewhere as before. -/
theorem labels_apply (ln : IVec S8 32) (lab : IVec S1024 32) (bo : FVec Ideal S1x1024 .f32) (L : Vec Ideal S8x1024 .f32) (hyps : IVec S8x256 32)
    (k t : Fin 256) (b : Fin 8) :
    k0_pay20 (shapeCast S8x1 ln shapeCasts_S8_S8x1) (shapeCast S1x1024 lab shapeCasts_S1024_S1x1024) cols frames hyps (BitVec.ofNat 32 k.val)
        (k0_pay10 bo L) k0_pay11 (ix2 b t)
      = if t = k then labelAt lab (Scalar.select (IntOp.cmpi .slt (BitVec.ofNat 32 k.val) (ln (ix1 b))) (BitVec.ofNat 32 (best (logitRow bo L b)).val) 0#32)
        else hyps (ix2 b t) := by
  have hq : (select (cmpi .slt (broadcast S8x1 (BitVec.ofNat 32 k.val)) (shapeCast S8x1 ln shapeCasts_S8_S8x1)) (k0_pay12 cols (k0_pay10 bo L) k0_pay11)
      (broadcast S8x1 0#32)) (ix2 b 0) = Scalar.select (IntOp.cmpi .slt (BitVec.ofNat 32 k.val) (ln (ix1 b))) (BitVec.ofNat 32 (best (logitRow bo L b)).val) 0#32 := by
    rw [select_apply, show ∀ x y : IVec S8x1 32, cmpi .slt x y (ix2 b 0) = IntOp.cmpi .slt (x (ix2 b 0)) (y (ix2 b 0)) from fun _ _ => rfl, pay12_apply,
      shapeCast_a_a1_apply]
    rfl
  have hlt : (Scalar.select (IntOp.cmpi .slt (BitVec.ofNat 32 k.val) (ln (ix1 b))) (BitVec.ofNat 32 (best (logitRow bo L b)).val) 0#32).toNat < 1024 := by
    unfold Scalar.select
    split
    · rw [BitVec.toNat_ofNat]
      exact lt_of_le_of_lt (Nat.mod_le _ _) (best _).isLt
    · decide
  have hs := oneHot_apply lab _ b (lt_of_eq_of_lt (congrArg BitVec.toNat hq) hlt)
  unfold k0_pay20
  dsimp only
  rw [select_apply, show ∀ x y : IVec S8x256 32, cmpi .eq x y (ix2 b t) = IntOp.cmpi .eq (x (ix2 b t)) (y (ix2 b t)) from fun _ _ => rfl, frames_apply,
    broadcast_col, shapeCast_self, shapeCast_self, shapeCast_a_a1_apply]
  refine (congrArg (fun z => Scalar.select _ z (hyps (ix2 b t))) (hs.trans (congrArg (labelAt lab) hq))).trans ?_
  have ht := t.isLt
  have hk := k.isLt
  by_cases h : t = k
  · subst h
    rw [if_pos rfl]
    simp [Scalar.select, IntOp.cmpi, broadcast]
  · rw [if_neg h]
    have e : BitVec.ofNat 32 t.val ≠ BitVec.ofNat 32 k.val := fun e => h (Fin.ext (by
      have e' := congrArg BitVec.toNat e
      rw [BitVec.toNat_ofNat, BitVec.toNat_ofNat] at e'
      omega))
    simp [Scalar.select, IntOp.cmpi, broadcast, beq_eq_false_iff_ne.mpr e]

/-- The first rows of the initial cache are the reference's. -/
theorem firstHidden_eq (X2 : Vec Ideal S2x8x512 .f32) : k0_pay28 (row0 X2) = Cert.Reference.half0 (F := Ideal) X2 := by
  funext i
  obtain ⟨b, j, rfl⟩ : ∃ b j, i = ix2 b j := ⟨i 0, i 1, eq_ix2 i⟩
  refine Eq.trans ?_ (Cert.Reference.half0_apply (F := Ideal) X2 b j).symm
  unfold k0_pay28
  rw [shapeCast_1ab_ab_apply]
  refine congrArg X2 (funext fun a => Fin.ext ?_)
  match a with
  | ⟨0, _⟩ => rfl
  | ⟨1, _⟩ => show 0 + 1 * b.val = b.val; omega
  | ⟨2, _⟩ => show 0 + 1 * j.val = j.val; omega

theorem firstCell_eq (X2 : Vec Ideal S2x8x512 .f32) : k0_pay29 (row1 X2) = Cert.Reference.half1 (F := Ideal) X2 := by
  funext i
  obtain ⟨b, j, rfl⟩ : ∃ b j, i = ix2 b j := ⟨i 0, i 1, eq_ix2 i⟩
  refine Eq.trans ?_ (Cert.Reference.half1_apply (F := Ideal) X2 b j).symm
  unfold k0_pay29
  rw [shapeCast_1ab_ab_apply]
  refine congrArg X2 (funext fun a => Fin.ext ?_)
  match a with
  | ⟨0, _⟩ => rfl
  | ⟨1, _⟩ => show 0 + 1 * b.val = b.val; omega
  | ⟨2, _⟩ => show 0 + 1 * j.val = j.val; omega

/-- The two rows of the result cache stacked as the reference stacks them. -/
theorem cacheOut_eq (s : St Ideal) : cacheOut s = Cert.Reference.stacked (F := Ideal) s.1 s.2.1 := by
  funext i
  obtain ⟨a, b, j, rfl⟩ : ∃ a b j, i = ix3 a b j := ⟨i 0, i 1, i 2, eq_ix3 i⟩
  refine Eq.trans ?_ (Cert.Reference.stacked_apply (F := Ideal) s.1 s.2.1 a b j).symm
  show (if a.val = 0 then k0_pay1 s.1 (ix3 0 b j) else k0_pay2 s.2.1 (ix3 0 b j)) = _
  unfold k0_pay1 k0_pay2
  rw [shapeCast_ab_1ab_apply, shapeCast_ab_1ab_apply]

end Cert.Agree

end
-- ==== Proof.RefToken.lean ====
/-
  The token a trip of the reference decodes, at exact arithmetic: the first position of the greatest logit of the row.
-/
module

public import proofs.«01_k».proof.Proof.Pick
public import proofs.«01_k».proof.Proof.RefStep
public import Idealize.ShloMosaic.Lib.ValueLayout
public import Idealize.ShloMosaic.Lib.IdealHost

@[expose] public section

noncomputable section

namespace Cert.Reference

open Cert.ReferenceIdeal Cert.ReferenceIdeal.Gen
open Idealize.ShloMosaic Idealize.ShloMosaic.ValueIdx
open Cert.Pick

theorem reducer_eq (a b : EReal × BitVec 32) : reducer_argmax_f32_i32 (F := Ideal) a b = keep a b := by
  obtain ⟨v, i⟩ := a
  obtain ⟨w, j⟩ := b
  show (Scalar.select (IntOp.ori (Ideal.cmp .ogt v w) (Ideal.cmp .une v v)) v w,
    Scalar.select (IntOp.ori (IntOp.ori (Ideal.cmp .ogt v w) (Ideal.cmp .une v v)) (IntOp.andi (Ideal.cmp .oeq v w) (IntOp.cmpi .slt i j))) i j) = _
  have hune : Ideal.cmp .une v v = 0#1 := by simp [Ideal.cmp]
  have hslt : IntOp.cmpi .slt i j = BitVec.ofBool (decide (i.toInt < j.toInt)) := by simp [IntOp.cmpi, BitVec.slt]
  have hgt : Ideal.cmp .ogt v w = BitVec.ofBool (decide (w < v)) := by simp [Ideal.cmp]
  have heq : Ideal.cmp .oeq v w = BitVec.ofBool (decide (v = w)) := by simp [Ideal.cmp]
  rw [hune, hslt, hgt, heq]
  unfold keep
  by_cases h1 : w < v
  · by_cases h3 : i.toInt < j.toInt <;> simp [h1, ne_of_gt h1, h3, IntOp.ori, IntOp.andi, Scalar.select]
  · by_cases h2 : v = w
    · by_cases h3 : i.toInt < j.toInt <;> simp [h1, h2, h3, IntOp.ori, IntOp.andi, Scalar.select]
    · simp [h1, h2, IntOp.ori, IntOp.andi, Scalar.select]

theorem drop_ix2 (i : S8x1024.Idx) (b : Fin 8) : reducesTo_S8x1024_S8_d1.drop i = ix1 b ↔ (i 0).val = b.val := by
  constructor
  · intro h
    exact congrArg (fun q : S8.Idx => (q 0).val) h
  · intro h
    funext a
    match a with
    | ⟨0, _⟩ => exact Fin.ext h

theorem fold_eq (L : FVec Ideal S8x1024 .f32) (l : List (Fin S8x1024.numel)) :
    l.foldl (fun (r : Ideal .f32 × BitVec 32) n => reducer_argmax_f32_i32 (F := Ideal) r (L (S8x1024.rowMajor.symm n), iotaInDim S8x1024 32 1 (S8x1024.rowMajor.symm n)))
        ((constant S_ .f32 0xFF800000#32 : FVec Ideal S_ .f32) (Shape.Idx.first h_S_), constantI S_ 32 0#32 (Shape.Idx.first h_S_))
      = l.foldl (fun (r : EReal × BitVec 32) n => keep r ((L (S8x1024.rowMajor.symm n) : EReal), BitVec.ofNat 32 (S8x1024.rowMajor.symm n 1).val)) (⊥, 0#32) := by
  have hbot : (Ideal.ofBits .f32 0xFF800000#32 : EReal) = ⊥ := by simp [Ideal.ofBits, Ideal.ieee]
  have hi : ((constant S_ .f32 0xFF800000#32 : FVec Ideal S_ .f32) (Shape.Idx.first h_S_), constantI S_ 32 0#32 (Shape.Idx.first h_S_))
      = ((⊥, 0#32) : EReal × BitVec 32) := Prod.ext hbot rfl
  rw [hi]
  generalize ((⊥, 0#32) : EReal × BitVec 32) = z
  induction l generalizing z with
  | nil => rfl
  | cons n l ih =>
    rw [List.foldl_cons, List.foldl_cons, reducer_eq]
    exact ih _

/-- The reference's token is the first position of the greatest logit. -/
theorem token_apply (L : FVec Ideal S8x1024 .f32) (b : Fin 8) :
    token L (ix1 b) = BitVec.ofNat 32 (best fun k => (L (ix2 b k) : EReal)).val := by
  unfold token
  rw [Ideal.argReduce_eq_reduce2]
  unfold Host.reduce2
  rw [fold_eq]
  refine foldl_pos (fun k => (L (ix2 b k) : EReal)) (fun n : Fin S8x1024.numel => (L (S8x1024.rowMajor.symm n) : EReal))
    (fun n => (S8x1024.rowMajor.symm n 1).val) (fun n => (S8x1024.rowMajor.symm n 1).isLt) _ ?_ ?_
  · intro p hp
    have hp := (drop_ix2 _ b).mp (of_decide_eq_true (List.mem_filter.mp hp).2)
    refine congrArg L ((eq_ix2 (S8x1024.rowMajor.symm p)).trans ?_)
    congr 1
    exact Fin.ext hp
  · intro k
    refine ⟨S8x1024.rowMajor (ix2 b k), ?_, ?_⟩
    · have : reducesTo_S8x1024_S8_d1.drop (ix2 b k) = ix1 b := (drop_ix2 _ b).mpr rfl
      refine List.mem_filter.mpr ⟨List.mem_finRange _, decide_eq_true ?_⟩
      rw [Equiv.symm_apply_apply]
      exact this
    · show (S8x1024.rowMajor.symm (S8x1024.rowMajor (ix2 b k)) 1).val = k.val
      rw [Equiv.symm_apply_apply]

end Cert.Reference

end
-- ==== Proof.Agree.lean ====
/-
  The kernel's decode loop and the reference's loop carry the same values, trip by trip, at exact arithmetic.
-/
module

public import proofs.«01_k».proof.Proof.Read
public import proofs.«01_k».proof.Proof.RefStep
public import proofs.«01_k».proof.Proof.RefToken

@[expose] public section

noncomputable section

namespace Cert.Agree

open Cert.KernelIdeal Cert.KernelIdeal.Gen Cert.Decode
open Idealize.ShloMosaic Idealize.ShloMosaic.TcCoe
open Idealize.ShloMosaic.ValueIdx
open Cert.Pick

section Step
variable (X : FVec Ideal S8x256x512 .f32) (ln : IVec S8 32) (T : FVec Ideal S1024x512 .f32) (Wi Wh : FVec Ideal S512x2048 .f32) (bl : FVec Ideal S2048 .f32)
  (We Wp : FVec Ideal S512x512 .f32) (bj : FVec Ideal S512 .f32) (Wo : FVec Ideal S512x1024 .f32) (bo : FVec Ideal S1024 .f32) (lab : IVec S1024 32)

/-- What a trip of the kernel and of the reference are handed agree: the hidden and cell states, the last tokens, the recurrent
    gates as the product of the hidden state, and the labels of the frames before `k` as those of the reference's table of tokens;
    every token is a row number. -/
structure Agrees (k : ℕ) (s : St Ideal) (h c : FVec Ideal S8x512 .f32) (p : IVec S8 32) (H : IVec Cert.ReferenceIdeal.S256x8 32) : Prop where
  hidden : s.1 = h
  cell : s.2.1 = c
  prev : ∀ b, s.2.2.1 (ix2 b 0) = p (ix1 b)
  recurrent : s.2.2.2.1 = (Host.dotGeneral dot_S8x512_S512x2048_S8x2048_1_0_0_1_n_n none h Wh : FVec Ideal S8x2048 .f32)
  prevLt : ∀ b, (p (ix1 b)).toNat < 1024
  tableLt : ∀ t b, (H (ix2 t b)).toNat < 1024
  labels : ∀ (b : Fin 8) (t : Fin 256), t.val < k → s.2.2.2.2 (ix2 b t)
    = labelAt lab (Scalar.select (IntOp.cmpi .slt (BitVec.ofNat 32 t.val) (ln (ix1 b))) (H (ix2 t b)) 0#32)

/-- The reference's gate sums, logits and tokens of a trip. -/
def refGates (h : FVec Ideal S8x512 .f32) (p : IVec S8 32) : FVec Ideal S8x2048 .f32 :=
  Cert.Reference.gateSums (Cert.Reference.takeRows (F := Ideal) T p) Wi h Wh bl
def refLogits (h c : FVec Ideal S8x512 .f32) (p : IVec S8 32) (i : IVec Cert.ReferenceIdeal.S_ 32) : FVec Ideal S8x1024 .f32 :=
  Cert.Reference.logits (Cert.Reference.encRow (F := Ideal) (Cert.Reference.projected X We) i) (Cert.Reference.hidden (refGates T Wi Wh bl h p) c) Wp bj Wo bo
def refTokens (h c : FVec Ideal S8x512 .f32) (p : IVec S8 32) (i : IVec Cert.ReferenceIdeal.S_ 32) : IVec S8 32 :=
  Cert.Reference.token (F := Ideal) (refLogits X T Wi Wh bl We Wp bj Wo bo h c p i)

/-- One trip keeps the agreement. -/
theorem step_agrees (k : Fin k0_t1_loop.trips) (s : St Ideal) (h c : FVec Ideal S8x512 .f32) (p : IVec S8 32) (H : IVec Cert.ReferenceIdeal.S256x8 32)
    (i : IVec Cert.ReferenceIdeal.S_ 32) (hi : i (Shape.Idx.first Cert.ReferenceIdeal.Gen.h_S_) = BitVec.ofNat 32 k.val)
    (A : Agrees ln Wh lab k.val s h c p H) :
    Agrees ln Wh lab (k.val + 1)
      (step (F := Ideal) (k0_pay21 (F := Ideal) X We) (k0_pay22 (F := Ideal) T Wi) Wh Wp Wo (shapeCast S8x1 ln shapeCasts_S8_S8x1) (shapeCast S1x2048 bl shapeCasts_S2048_S1x2048)
        (shapeCast S1x512 bj shapeCasts_S512_S1x512) (shapeCast S1x1024 bo shapeCasts_S1024_S1x1024) (shapeCast S1x1024 lab shapeCasts_S1024_S1x1024) cols frames k s)
      (Cert.Reference.pick (F := Ideal) (Cert.Reference.blank (refTokens X T Wi Wh bl We Wp bj Wo bo h c p i)) h (Cert.Reference.hidden (refGates T Wi Wh bl h p) c))
      (Cert.Reference.pick (F := Ideal) (Cert.Reference.blank (refTokens X T Wi Wh bl We Wp bj Wo bo h c p i)) c (Cert.Reference.cell (refGates T Wi Wh bl h p) c))
      (select (Cert.Reference.blank (refTokens X T Wi Wh bl We Wp bj Wo bo h c p i)) p (refTokens X T Wi Wh bl We Wp bj Wo bo h c p i))
      (Cert.Reference.putRow H (refTokens X T Wi Wh bl We Wp bj Wo bo h c p i) i) := by
  have hk : k.val < 256 := k.isLt
  have hG : k0_pay5 (gates (k0_pay22 (F := Ideal) T Wi) s) (k0_pay4 (shapeCast S1x2048 bl shapeCasts_S2048_S1x2048)) = refGates T Wi Wh bl h p :=
    gateSums_eq T Wi Wh bl s h p A.prev A.prevLt A.recurrent
  have hE : ∀ (b : Fin 8) (j : Fin 512), Cert.Reference.encRow (F := Ideal) (Cert.Reference.projected X We) i (ix2 b j) = k0_pay21 (F := Ideal) X We (ix3 b ⟨k.val, hk⟩ j) := fun b j =>
    (Cert.Reference.encRow_apply (F := Ideal) _ i ⟨k.val, hk⟩ hi b j).trans (encoded_eq X We b ⟨k.val, hk⟩ j).symm
  have hL : ∀ b, logitRow (shapeCast S1x1024 bo shapeCasts_S1024_S1x1024)
      (k0_pay9 (shapeCast S1x512 bj shapeCasts_S512_S1x512) (encAt (k0_pay21 (F := Ideal) X We) k)
        (k0_pay8 s.2.1 (gates (k0_pay22 (F := Ideal) T Wi) s) (k0_pay4 (shapeCast S1x2048 bl shapeCasts_S2048_S1x2048)) Wp) Wo) b
      = fun i' => (refLogits X T Wi Wh bl We Wp bj Wo bo h c p i (ix2 b i') : EReal) := fun b => by
    rw [logits_eq (k0_pay21 (F := Ideal) X We) k ⟨k.val, hk⟩ rfl _ hE, hG, A.cell]
    rfl
  have hT : ∀ b, refTokens X T Wi Wh bl We Wp bj Wo bo h c p i (ix1 b) = BitVec.ofNat 32 (best (logitRow (shapeCast S1x1024 bo shapeCasts_S1024_S1x1024)
      (k0_pay9 (shapeCast S1x512 bj shapeCasts_S512_S1x512) (encAt (k0_pay21 (F := Ideal) X We) k)
        (k0_pay8 s.2.1 (gates (k0_pay22 (F := Ideal) T Wi) s) (k0_pay4 (shapeCast S1x2048 bl shapeCasts_S2048_S1x2048)) Wp) Wo) b)).val := fun b => by
    rw [hL b]
    exact Cert.Reference.token_apply _ b
  have hlt : ∀ b, (refTokens X T Wi Wh bl We Wp bj Wo bo h c p i (ix1 b)).toNat < 1024 := fun b => by
    rw [hT b, BitVec.toNat_ofNat]
    exact lt_of_le_of_lt (Nat.mod_le _ _) (best _).isLt
  have hput := fun t b => Cert.Reference.putRow_apply H (refTokens X T Wi Wh bl We Wp bj Wo bo h c p i) i ⟨k.val, hk⟩ hi t b
  have e1 := hiddenKept_eq _ _ _ hT
  have e2 := cellKept_eq _ _ _ hT
  have e3 := kept_eq _ _ _ hT
  have e4 := recurrentKept_eq _ _ _ hT
  unfold step peak
  refine ⟨?_, ?_, fun b => ?_, ?_, fun b => ?_, fun t b => ?_, fun b t ht => ?_⟩ <;> try dsimp only
  · rw [e1, hidden_eq, hG, A.hidden, A.cell]
  · rw [e2, cell_eq, hG, A.cell]
  · unfold k0_pay17
    rw [select_apply, select_apply, e3, pay12_apply, A.prev b, hT b]
  · rw [A.recurrent, e4, hidden_eq, hG, A.cell]
  · rw [select_apply]
    unfold Scalar.select
    split
    · exact A.prevLt b
    · exact hlt b
  · rw [hput]
    split
    · exact hlt b
    · exact A.tableLt t b
  · rw [hput]
    have e := labels_apply ln lab (shapeCast S1x1024 bo shapeCasts_S1024_S1x1024) (k0_pay9 (shapeCast S1x512 bj shapeCasts_S512_S1x512) (encAt (k0_pay21 (F := Ideal) X We) k)
        (k0_pay8 s.2.1 (gates (k0_pay22 (F := Ideal) T Wi) s) (k0_pay4 (shapeCast S1x2048 bl shapeCasts_S2048_S1x2048)) Wp) Wo) s.2.2.2.2 ⟨k.val, hk⟩ t b
    have hiv : Scf.iv 0#32 1#32 k.val = BitVec.ofNat 32 k.val := by simp [Scf.iv]
    refine (congrArg (fun w => k0_pay20 _ _ _ _ _ w _ _ (ix2 b t)) hiv).trans (e.trans ?_)
    by_cases h' : t = ⟨k.val, hk⟩
    · rw [if_pos h', if_pos h', ← hT b, h']
    · rw [if_neg h', if_neg h']
      exact A.labels b t (lt_of_le_of_ne (Nat.le_of_lt_succ ht) fun e => h' (Fin.ext e))

end Step

end Cert.Agree

end
-- ==== Proof.Equal.lean ====
/-
  The kernel's results and the reference's from equal arguments, at exact arithmetic: the agreement of the loops carried through
  all their trips, and what follows them.
-/
module

public import proofs.«01_k».proof.Proof.Agree
public import proofs.«01_k».proof.Proof.RefRun

@[expose] public section

noncomputable section

namespace Cert.Agree

open Cert.KernelIdeal Cert.KernelIdeal.Gen Cert.Decode
open Idealize.ShloMosaic Idealize.ShloMosaic.TcCoe
open Idealize.ShloMosaic.ValueIdx
open Cert.Pick
open Cert.ReferenceIdeal.Value (atK preI bodyI postI condOps)

section Decoded
variable (X : FVec Ideal S8x256x512 .f32) (ln : IVec S8 32) (C0 : FVec Ideal S2x8x512 .f32) (T : FVec Ideal S1024x512 .f32) (Wi Wh : FVec Ideal S512x2048 .f32)
  (bl : FVec Ideal S2048 .f32) (We Wp : FVec Ideal S512x512 .f32) (bj : FVec Ideal S512 .f32) (Wo : FVec Ideal S512x1024 .f32) (bo : FVec Ideal S1024 .f32)
  (lab : IVec S1024 32)

/-- What trip `k` of the kernel is handed, from the arguments. -/
def decoded (k : ℕ) : St Ideal :=
  stAt (F := Ideal) X (shapeCast S8x1 ln shapeCasts_S8_S8x1) C0 T Wi Wh (shapeCast S1x2048 bl shapeCasts_S2048_S1x2048) We Wp
    (shapeCast S1x512 bj shapeCasts_S512_S1x512) Wo (shapeCast S1x1024 bo shapeCasts_S1024_S1x1024) (shapeCast S1x1024 lab shapeCasts_S1024_S1x1024) k

theorem decoded_succ (k : Fin k0_t1_loop.trips) : decoded X ln C0 T Wi Wh bl We Wp bj Wo bo lab (k.val + 1)
    = step (F := Ideal) (k0_pay21 (F := Ideal) X We) (k0_pay22 (F := Ideal) T Wi) Wh Wp Wo (shapeCast S8x1 ln shapeCasts_S8_S8x1) (shapeCast S1x2048 bl shapeCasts_S2048_S1x2048)
        (shapeCast S1x512 bj shapeCasts_S512_S1x512) (shapeCast S1x1024 bo shapeCasts_S1024_S1x1024) (shapeCast S1x1024 lab shapeCasts_S1024_S1x1024) cols frames k
        (decoded X ln C0 T Wi Wh bl We Wp bj Wo bo lab k.val) := by
  unfold decoded
  rw [stAt_succ]
  unfold k0_pay23 k0_pay24 k0_pay25 k0_pay26 k0_pay27
  dsimp only
  rw [shapeCast_self, shapeCast_self, shapeCast_self, shapeCast_self, shapeCast_self]

/-- The first trip is handed what the reference's loop starts from. -/
theorem decoded_zero : Agrees ln Wh lab 0 (decoded X ln C0 T Wi Wh bl We Wp bj Wo bo lab 0)
    (Cert.Reference.half0 (F := Ideal) C0) (Cert.Reference.half1 (F := Ideal) C0) Cert.Reference.zeroTokens Cert.Reference.zeroTable where
  hidden := firstHidden_eq C0
  cell := firstCell_eq C0
  prev := fun b => rfl
  recurrent := by
    show k0_pay32 (F := Ideal) (row0 C0) Wh = _
    unfold k0_pay32
    dsimp only
    rw [same_product, firstHidden_eq]
  prevLt := fun b => (by decide : (0#32 : BitVec 32).toNat < 1024)
  tableLt := fun t b => (by decide : (0#32 : BitVec 32).toNat < 1024)
  labels := fun b t h => absurd h (Nat.not_lt_zero _)
end Decoded

section Run
variable (m : (ℓ : Loc Cert.ReferenceIdeal.nD Cert.ReferenceIdeal.τ Cert.ReferenceIdeal.sig) → Buf (Elt Ideal) ℓ) (c : Dev Cert.ReferenceIdeal.nD)

/-- The reference's arguments. -/
abbrev aX : FVec Ideal S8x256x512 .f32 := m (c.tc.loc Cert.ReferenceIdeal.main_arg0)
abbrev aLn : IVec S8 32 := m (c.tc.loc Cert.ReferenceIdeal.main_arg1)
abbrev aC : FVec Ideal S2x8x512 .f32 := m (c.tc.loc Cert.ReferenceIdeal.main_arg2)
abbrev aT : FVec Ideal S1024x512 .f32 := m (c.tc.loc Cert.ReferenceIdeal.main_arg3)
abbrev aWi : FVec Ideal S512x2048 .f32 := m (c.tc.loc Cert.ReferenceIdeal.main_arg4)
abbrev aWh : FVec Ideal S512x2048 .f32 := m (c.tc.loc Cert.ReferenceIdeal.main_arg5)
abbrev aBl : FVec Ideal S2048 .f32 := m (c.tc.loc Cert.ReferenceIdeal.main_arg6)
abbrev aWe : FVec Ideal S512x512 .f32 := m (c.tc.loc Cert.ReferenceIdeal.main_arg7)
abbrev aWp : FVec Ideal S512x512 .f32 := m (c.tc.loc Cert.ReferenceIdeal.main_arg8)
abbrev aBj : FVec Ideal S512 .f32 := m (c.tc.loc Cert.ReferenceIdeal.main_arg9)
abbrev aWo : FVec Ideal S512x1024 .f32 := m (c.tc.loc Cert.ReferenceIdeal.main_arg10)
abbrev aBo : FVec Ideal S1024 .f32 := m (c.tc.loc Cert.ReferenceIdeal.main_arg11)
abbrev aLab : IVec S1024 32 := m (c.tc.loc Cert.ReferenceIdeal.main_arg12)

/-- The kernel's state after `k` trips, from the reference's arguments. -/
abbrev decodedOf (k : ℕ) : St Ideal :=
  decoded (aX m c) (aLn m c) (aC m c) (aT m c) (aWi m c) (aWh m c) (aBl m c) (aWe m c) (aWp m c) (aBj m c) (aWo m c) (aBo m c) (aLab m c) k

/-- What the reference's loop carries at trip `k`: the two states, the tokens and the table of tokens. -/
abbrev rH (k : ℕ) : FVec Ideal S8x512 .f32 := atK m k c (Proc.devRef .tc Cert.ReferenceIdeal.main_v8_10)
abbrev rC (k : ℕ) : FVec Ideal S8x512 .f32 := atK m k c (Proc.devRef .tc Cert.ReferenceIdeal.main_v8_11)
abbrev rP (k : ℕ) : IVec S8 32 := atK m k c (Proc.devRef .tc Cert.ReferenceIdeal.main_v8_12)
abbrev rT (k : ℕ) : IVec Cert.ReferenceIdeal.S256x8 32 := atK m k c (Proc.devRef .tc Cert.ReferenceIdeal.main_v8_13)
abbrev rI (k : ℕ) : IVec Cert.ReferenceIdeal.S_ 32 := atK m k c (Proc.devRef .tc Cert.ReferenceIdeal.main_v8_9)

theorem gates_ref (k : ℕ) : Cert.Reference.tG (F := Ideal) (atK m k c) = refGates (aT m c) (aWi m c) (aWh m c) (aBl m c) (rH m c k) (rP m c k) := by
  unfold Cert.Reference.tG refGates
  rw [Cert.Reference.atK_keep m c Cert.ReferenceIdeal.main_v8_1 (by decide +kernel), Cert.Reference.atK_keep m c Cert.ReferenceIdeal.main_v8_2 (by decide +kernel),
    Cert.Reference.atK_keep m c Cert.ReferenceIdeal.main_v8_3 (by decide +kernel), Cert.Reference.atK_keep m c Cert.ReferenceIdeal.main_v8_4 (by decide +kernel),
    Cert.Reference.entry1, Cert.Reference.entry2, Cert.Reference.entry3, Cert.Reference.entry4]

theorem tokens_ref (k : ℕ) : Cert.Reference.tT (F := Ideal) (atK m k c)
    = refTokens (aX m c) (aT m c) (aWi m c) (aWh m c) (aBl m c) (aWe m c) (aWp m c) (aBj m c) (aWo m c) (aBo m c) (rH m c k) (rC m c k) (rP m c k) (rI m c k) := by
  unfold Cert.Reference.tT Cert.Reference.tL refTokens refLogits
  rw [gates_ref, Cert.Reference.atK_keep m c Cert.ReferenceIdeal.main_v8_0 (by decide +kernel), Cert.Reference.atK_keep m c Cert.ReferenceIdeal.main_v8_5 (by decide +kernel),
    Cert.Reference.atK_keep m c Cert.ReferenceIdeal.main_v8_6 (by decide +kernel), Cert.Reference.atK_keep m c Cert.ReferenceIdeal.main_v8_7 (by decide +kernel),
    Cert.Reference.atK_keep m c Cert.ReferenceIdeal.main_v8_8 (by decide +kernel),
    Cert.Reference.entry0, Cert.Reference.entry5, Cert.Reference.entry6, Cert.Reference.entry7, Cert.Reference.entry8]

/-- The loops agree at every trip. -/
theorem agrees : ∀ k : ℕ, k ≤ 256 → Agrees (aLn m c) (aWh m c) (aLab m c) k (decodedOf m c k) (rH m c k) (rC m c k) (rP m c k) (rT m c k)
  | 0, _ => by
    have z := decoded_zero (aX m c) (aLn m c) (aC m c) (aT m c) (aWi m c) (aWh m c) (aBl m c) (aWe m c) (aWp m c) (aBj m c) (aWo m c) (aBo m c) (aLab m c)
    have e10 : rH m c 0 = Cert.Reference.half0 (F := Ideal) (aC m c) := Cert.Reference.entry10 m c
    have e11 : rC m c 0 = Cert.Reference.half1 (F := Ideal) (aC m c) := Cert.Reference.entry11 m c
    have e12 : rP m c 0 = Cert.Reference.zeroTokens := Cert.Reference.entry12 m c
    have e13 : rT m c 0 = Cert.Reference.zeroTable := Cert.Reference.entry13 m c
    rw [e10, e11, e12, e13]
    exact z
  | k + 1, hk => by
    have A := agrees k (Nat.le_of_succ_le hk)
    have hi : rI m c k (Shape.Idx.first Cert.ReferenceIdeal.Gen.h_S_) = BitVec.ofNat 32 k := by
      refine (congrFun (Cert.ReferenceIdeal.Value.atK_ctr m c k) _).trans ?_
      simp [Scf.iv]
    have S := step_agrees (aX m c) (aLn m c) (aT m c) (aWi m c) (aWh m c) (aBl m c) (aWe m c) (aWp m c) (aBj m c) (aWo m c) (aBo m c) (aLab m c)
      ⟨k, hk⟩ (decodedOf m c k) (rH m c k) (rC m c k) (rP m c k) (rT m c k) (rI m c k) hi A
    rw [← decoded_succ (C0 := aC m c), ← tokens_ref, ← gates_ref] at S
    have e10 : rH m c (k + 1) = Cert.Reference.pick (F := Ideal) (Cert.Reference.blank (Cert.Reference.tT (F := Ideal) (atK m k c))) (rH m c k)
      (Cert.Reference.hidden (Cert.Reference.tG (F := Ideal) (atK m k c)) (rC m c k)) := Cert.Reference.w_trip_h (F := Ideal) (atK m k c)
    have e11 : rC m c (k + 1) = Cert.Reference.pick (F := Ideal) (Cert.Reference.blank (Cert.Reference.tT (F := Ideal) (atK m k c))) (rC m c k)
      (Cert.Reference.cell (Cert.Reference.tG (F := Ideal) (atK m k c)) (rC m c k)) := Cert.Reference.w_trip_c (F := Ideal) (atK m k c)
    have e12 : rP m c (k + 1) = select (Cert.Reference.blank (Cert.Reference.tT (F := Ideal) (atK m k c))) (rP m c k) (Cert.Reference.tT (F := Ideal) (atK m k c)) :=
      Cert.Reference.w_trip_prev (F := Ideal) (atK m k c)
    have e13 : rT m c (k + 1) = Cert.Reference.putRow (rT m c k) (Cert.Reference.tT (F := Ideal) (atK m k c)) (rI m c k) := Cert.Reference.w_trip_hyps (F := Ideal) (atK m k c)
    rw [e10, e11, e12, e13]
    exact S

/-- The labels the kernel leaves are the reference's. -/
theorem labels_eq : (decodedOf m c 256).2.2.2.2
    = (Idealize.ShloMosaic.StableHlo.finalContents condOps preI bodyI postI 256 m c (Proc.devRef .tc Cert.ReferenceIdeal.main_v17) : IVec S8x256 32) := by
  have A := agrees m c 256 le_rfl
  refine Eq.trans ?_ (Cert.Reference.final_labels m c).symm
  have hm : ∀ (b : Fin 8) (t : Fin 256), Cert.Reference.masked (rT m c 256) (aLn m c) (ix2 b t)
      = Scalar.select (IntOp.cmpi .slt (BitVec.ofNat 32 t.val) (aLn m c (ix1 b))) (rT m c 256 (ix2 t b)) 0#32 :=
    fun b t => Cert.Reference.masked_apply _ _ b t
  have hlt : ∀ (b : Fin 8) (t : Fin 256), (Cert.Reference.masked (rT m c 256) (aLn m c) (ix2 b t)).toNat < 1024 := fun b t => by
    rw [hm]
    unfold Scalar.select
    split
    · exact A.tableLt t b
    · decide
  funext i
  obtain ⟨b, t, rfl⟩ : ∃ b t, i = ix2 b t := ⟨i 0, i 1, eq_ix2 i⟩
  refine (A.labels b t t.isLt).trans ?_
  refine Eq.trans ?_ (Cert.Reference.takeLabels_apply (aLab m c) _ hlt b t).symm
  rw [← hm]
  exact congrArg (fun r => aLab m c (ix1 r)) (Fin.ext (Nat.mod_eq_of_lt (hlt b t)))

/-- The states the kernel leaves are the reference's. -/
theorem states_eq : cacheOut (decodedOf m c 256)
    = (Idealize.ShloMosaic.StableHlo.finalContents condOps preI bodyI postI 256 m c (Proc.devRef .tc Cert.ReferenceIdeal.main_v20) : FVec Ideal S2x8x512 .f32) := by
  have A := agrees m c 256 le_rfl
  refine Eq.trans ?_ (Cert.Reference.final_stacked m c).symm
  rw [cacheOut_eq, A.hidden, A.cell]
end Run

end Cert.Agree

end
-- ==== Proof.lean ====
/-
  The certificate's claim assembled.
-/
module

public import proofs.«01_k».proof.Defs
public import proofs.«01_k».proof.Proof.Equal

@[expose] public section

noncomputable section

namespace Cert.Proof

open Idealize.ShloMosaic Idealize.ShloMosaic.TcCoe Idealize.SL.Sem
open Cert.KernelIdeal.Gen (t0_0)
open Cert.ReferenceIdeal.Value (preI bodyI postI condOps)

/-- The kernel at exact arithmetic runs, leaves its arguments unchanged and every counter at zero. -/
theorem kernelFrame : Cert.quiescent_KernelIdeal (hKernelIdeal := Cert.KernelIdeal.Gen.facts) := fun m ρ _ =>
  (θ_run (Cert.KernelIdeal.defs (F := Ideal)) _ _).mono (fun r h => ⟨fun c => (h.1 c).2, h.2⟩)
    (Cert.Decode.run (F := Ideal) m ρ Cert.Decode.inRange)

/-- The kernel's state after its last trip, from a reference memory that holds the same arguments. -/
theorem last_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9))
    (h10 : m' (c.tc.loc Cert.ReferenceIdeal.main_arg10) = m (c.tc.loc Cert.KernelIdeal.main_arg10))
    (h11 : m' (c.tc.loc Cert.ReferenceIdeal.main_arg11) = m (c.tc.loc Cert.KernelIdeal.main_arg11))
    (h12 : m' (c.tc.loc Cert.ReferenceIdeal.main_arg12) = m (c.tc.loc Cert.KernelIdeal.main_arg12)) :
    Cert.Decode.last (F := Ideal) m c t0_0 = Cert.Agree.decodedOf m' c 256 := by
  unfold Cert.Decode.last Cert.Agree.decodedOf Cert.Agree.aX Cert.Agree.aLn Cert.Agree.aC Cert.Agree.aT Cert.Agree.aWi Cert.Agree.aWh Cert.Agree.aBl Cert.Agree.aWe
    Cert.Agree.aWp Cert.Agree.aBj Cert.Agree.aWo Cert.Agree.aBo Cert.Agree.aLab Cert.Agree.decoded
  rw [h0, h1, h2, h3, h4, h5, h6, h7, h8, h9, h10, h11, h12, Cert.Decode.iblk0_0, Cert.Decode.iblk0_1, Cert.Decode.iblk0_2, Cert.Decode.iblk0_3, Cert.Decode.iblk0_4,
    Cert.Decode.iblk0_5, Cert.Decode.iblk0_6, Cert.Decode.iblk0_7, Cert.Decode.iblk0_8, Cert.Decode.iblk0_9, Cert.Decode.iblk0_10, Cert.Decode.iblk0_11, Cert.Decode.iblk0_12]

/-- From equal arguments the kernel and the reference, both at exact arithmetic, return equal labels and equal states. -/
theorem results : Cert.algebraic_KernelIdeal_ReferenceIdeal (hKernelIdeal := Cert.KernelIdeal.Gen.facts) (hReferenceIdeal := Cert.ReferenceIdeal.Gen.facts) := by
  intro m g m' g' _ hm
  have hl : ∀ c : Dev Cert.KernelIdeal.nD, Cert.Decode.last (F := Ideal) m c t0_0 = Cert.Agree.decodedOf m' c 256 := fun c =>
    match hm c with
    | ⟨h0, h1, h2, h3, h4, h5, h6, h7, h8, h9, h10, h11, h12⟩ => last_eq m m' c h0 h1 h2 h3 h4 h5 h6 h7 h8 h9 h10 h11 h12
  refine ⟨fun c => (Cert.Decode.last (F := Ideal) m c t0_0).2.2.2.2, fun c => Cert.Decode.cacheOut (Cert.Decode.last (F := Ideal) m c t0_0), ?_, ?_⟩
  · exact (θ_run (Cert.KernelIdeal.defs (F := Ideal)) _ _).mono (fun r h c => ⟨(h.1 c).1.1, (h.1 c).1.2, (h.1 c).2⟩)
      (Cert.Decode.run (F := Ideal) m g Cert.Decode.inRange)
  · exact (θ_run (Cert.ReferenceIdeal.defs (F := Ideal)) _ _).mono (fun r h c =>
      ⟨(h c Cert.ReferenceIdeal.main_v17 rfl).trans ((Cert.Agree.labels_eq m' c).symm.trans (congrArg (fun s : Cert.Decode.St Ideal => s.2.2.2.2) (hl c).symm)),
        (h c Cert.ReferenceIdeal.main_v20 rfl).trans ((Cert.Agree.states_eq m' c).symm.trans (congrArg Cert.Decode.cacheOut (hl c).symm)),
        (h c Cert.ReferenceIdeal.main_arg0 rfl).trans (Cert.Reference.arg0 m' c),
        (h c Cert.ReferenceIdeal.main_arg1 rfl).trans (Cert.Reference.arg1 m' c),
        (h c Cert.ReferenceIdeal.main_arg2 rfl).trans (Cert.Reference.arg2 m' c),
        (h c Cert.ReferenceIdeal.main_arg3 rfl).trans (Cert.Reference.arg3 m' c),
        (h c Cert.ReferenceIdeal.main_arg4 rfl).trans (Cert.Reference.arg4 m' c),
        (h c Cert.ReferenceIdeal.main_arg5 rfl).trans (Cert.Reference.arg5 m' c),
        (h c Cert.ReferenceIdeal.main_arg6 rfl).trans (Cert.Reference.arg6 m' c),
        (h c Cert.ReferenceIdeal.main_arg7 rfl).trans (Cert.Reference.arg7 m' c),
        (h c Cert.ReferenceIdeal.main_arg8 rfl).trans (Cert.Reference.arg8 m' c),
        (h c Cert.ReferenceIdeal.main_arg9 rfl).trans (Cert.Reference.arg9 m' c),
        (h c Cert.ReferenceIdeal.main_arg10 rfl).trans (Cert.Reference.arg10 m' c),
        (h c Cert.ReferenceIdeal.main_arg11 rfl).trans (Cert.Reference.arg11 m' c),
        (h c Cert.ReferenceIdeal.main_arg12 rfl).trans (Cert.Reference.arg12 m' c)⟩)
      (Cert.ReferenceIdeal.Value.run_fold (F := Ideal) m' g')

theorem claim : Cert.Claim := ⟨Cert.KernelIdeal.Gen.facts, Cert.ReferenceIdeal.Gen.facts, kernelFrame, Cert.Reference.frame, results⟩

end Cert.Proof

end
